-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x64 : Shape := ⟨3, ![4, 2048, 64]⟩
abbrev S4x2048x2048 : Shape := ⟨3, ![4, 2048, 2048]⟩
abbrev S4x2048x1 : Shape := ⟨3, ![4, 2048, 1]⟩
abbrev S64x64 : Shape := ⟨2, ![64, 64]⟩
abbrev S64 : Shape := ⟨1, ![64]⟩
abbrev S_ : Shape := ⟨0, ![]⟩

class Facts : Prop where
  bcast_S_S4x2048x64 : S_.BroadcastsInDim S4x2048x64 (![] : Fin 0 → Fin S4x2048x64.rank)
  reducesTo_S4x2048x64_S_d0_1_2 : S4x2048x64.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S64x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S4x2048x64 .f32) (main_arg1 : FVec F S4x2048x2048 .f32) (main_arg2 : FVec F S4x2048x1 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) : IVec S_ 1 :=
  let main_v0 : FVec F S4x2048x64 .f32 := Host.absf main_arg0
  let main_cst : FVec F S_ .f32 := constant S_ .f32 0x7F800000#32
  let main_v1 : FVec F S4x2048x64 .f32 := broadcastInDim S4x2048x64 ![] bcast_S_S4x2048x64 main_cst
  let main_v2 : IVec S4x2048x64 1 := cmpf .olt main_v0 main_v1
  let main_c : IVec S_ 1 := constantI S_ 1 1#1
  let main_v3 : IVec S_ 1 := (fun x v => Host.reduce IntOp.andi x v reducesTo_S4x2048x64_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S4x2048x64 : Shape := ⟨3, ![4, 2048, 64]⟩
abbrev S4x2048x2048 : Shape := ⟨3, ![4, 2048, 2048]⟩
abbrev S4x2048x1 : Shape := ⟨3, ![4, 2048, 1]⟩
abbrev S64x64 : Shape := ⟨2, ![64, 64]⟩
abbrev S64 : Shape := ⟨1, ![64]⟩
abbrev S1x64 : Shape := ⟨2, ![1, 64]⟩
abbrev S1x2048x64 : Shape := ⟨3, ![1, 2048, 64]⟩
abbrev S1x2048x1 : Shape := ⟨3, ![1, 2048, 1]⟩
abbrev S2048x64 : Shape := ⟨2, ![2048, 64]⟩
abbrev S2x2048x2048 : Shape := ⟨3, ![2, 2048, 2048]⟩
abbrev S2x4 : Shape := ⟨2, ![2, 4]⟩
abbrev S1x1 : Shape := ⟨2, ![1, 1]⟩
abbrev S_ : Shape := ⟨0, ![]⟩
abbrev S1x512x2048 : Shape := ⟨3, ![1, 512, 2048]⟩
abbrev S512x2048 : Shape := ⟨2, ![512, 2048]⟩
abbrev S1x2048x2048 : Shape := ⟨3, ![1, 2048, 2048]⟩
abbrev S2048x2048 : Shape := ⟨2, ![2048, 2048]⟩
abbrev S2048x1 : Shape := ⟨2, ![2048, 1]⟩

abbrev nBuf : Space → Nat
  | .hbm => 19
  | .vmem => 22
  | .smem => 0
  | _ => 0

abbrev bufTy : (tb : Table) → Fin (tcTables nBuf tb) → BufTy
  | .hbm, ⟨0, _⟩ => ⟨S4x2048x64, .f32⟩
  | .hbm, ⟨1, _⟩ => ⟨S4x2048x2048, .f32⟩
  | .hbm, ⟨2, _⟩ => ⟨S4x2048x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x1, .f32⟩
  | .local _ .vmem, ⟨3, _⟩ => ⟨S1x2048x1, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S1x2048x64, .f32⟩
  | .local _ .vmem, ⟨15, _⟩ => ⟨S1x2048x64, .f32⟩
  | .local _ .vmem, ⟨16, _⟩ => ⟨S2048x64, .f32⟩
  | .local _ .vmem, ⟨17, _⟩ => ⟨S2x2048x2048, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32_4 : BitVec 32 := 2#32
  let v17 : BitVec 32 := Scalar.remsi arg0 c2_i32_4
  let c0_i32_10 : BitVec 32 := 0#32
  let v24 : BitVec 1 := Scalar.cmpi .eq v17 c0_i32_10
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_11 : BitVec 32 := 1#32
  let v25 : BitVec 32 := Scalar.addi v16 c1_i32_11
  let c4_i32 : BitVec 32 := 4#32
  let v26 : BitVec 1 := Scalar.cmpi .slt v25 c4_i32
  let v27 : BitVec 1 := Scalar.andi v24 v26
  let v28 : BitVec 32 := Scalar.extui v27
  let c0_i32_12 : BitVec 32 := 0#32
  let v29 : BitVec 1 := Scalar.cmpi .ne v28 c0_i32_12
  v29

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v19 : BitVec 32 := Scalar.addi v16 c1_i32_6
  let c2_i32_7 : BitVec 32 := 2#32
  let v20 : BitVec 32 := Scalar.remsi v19 c2_i32_7
  let c0_i32_35 : BitVec 32 := 0#32
  ![v20.toNat, 0]
def k0_off2 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v19 : BitVec 32 := Scalar.addi v16 c1_i32_6
  let c2_i32_7 : BitVec 32 := 2#32
  let v20 : BitVec 32 := Scalar.remsi v19 c2_i32_7
  let c0_i32_36 : BitVec 32 := 0#32
  let c0_i32_37 : BitVec 32 := 0#32
  ![v20.toNat, 0, 0]
def k0_off3 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_34 : BitVec 32 := 1#32
  let v65 : BitVec 32 := Scalar.addi v16 c1_i32_34
  let c0_i32_38 : BitVec 32 := 0#32
  let c0_i32_39 : BitVec 32 := 0#32
  ![v65.toNat, 0, 0]
def k0_off4 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v19 : BitVec 32 := Scalar.addi v16 c1_i32_6
  let c2_i32_7 : BitVec 32 := 2#32
  let v20 : BitVec 32 := Scalar.remsi v19 c2_i32_7
  let c1_i32_40 : BitVec 32 := 1#32
  ![v20.toNat, 1]
def k0_off5 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v19 : BitVec 32 := Scalar.addi v16 c1_i32_6
  let c2_i32_7 : BitVec 32 := 2#32
  let v20 : BitVec 32 := Scalar.remsi v19 c2_i32_7
  let c512_i32 : BitVec 32 := 512#32
  let c0_i32_41 : BitVec 32 := 0#32
  ![v20.toNat, 512, 0]
def k0_off6 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_34 : BitVec 32 := 1#32
  let v65 : BitVec 32 := Scalar.addi v16 c1_i32_34
  let c512_i32_42 : BitVec 32 := 512#32
  let c0_i32_43 : BitVec 32 := 0#32
  ![v65.toNat, 512, 0]
def k0_off7 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v19 : BitVec 32 := Scalar.addi v16 c1_i32_6
  let c2_i32_7 : BitVec 32 := 2#32
  let v20 : BitVec 32 := Scalar.remsi v19 c2_i32_7
  let c2_i32_44 : BitVec 32 := 2#32
  ![v20.toNat, 2]
def k0_off8 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v19 : BitVec 32 := Scalar.addi v16 c1_i32_6
  let c2_i32_7 : BitVec 32 := 2#32
  let v20 : BitVec 32 := Scalar.remsi v19 c2_i32_7
  let c1024_i32 : BitVec 32 := 1024#32
  let c0_i32_45 : BitVec 32 := 0#32
  ![v20.toNat, 1024, 0]
def k0_off9 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_34 : BitVec 32 := 1#32
  let v65 : BitVec 32 := Scalar.addi v16 c1_i32_34
  let c1024_i32_46 : BitVec 32 := 1024#32
  let c0_i32_47 : BitVec 32 := 0#32
  ![v65.toNat, 1024, 0]
def k0_off10 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v19 : BitVec 32 := Scalar.addi v16 c1_i32_6
  let c2_i32_7 : BitVec 32 := 2#32
  let v20 : BitVec 32 := Scalar.remsi v19 c2_i32_7
  let c3_i32 : BitVec 32 := 3#32
  ![v20.toNat, 3]
def k0_off11 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v19 : BitVec 32 := Scalar.addi v16 c1_i32_6
  let c2_i32_7 : BitVec 32 := 2#32
  let v20 : BitVec 32 := Scalar.remsi v19 c2_i32_7
  let c1536_i32 : BitVec 32 := 1536#32
  let c0_i32_48 : BitVec 32 := 0#32
  ![v20.toNat, 1536, 0]
def k0_off12 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_34 : BitVec 32 := 1#32
  let v65 : BitVec 32 := Scalar.addi v16 c1_i32_34
  let c1536_i32_49 : BitVec 32 := 1536#32
  let c0_i32_50 : BitVec 32 := 0#32
  ![v65.toNat, 1536, 0]
def k0_cond4 (i : grid0.Coords) : BitVec 1 :=
  let arg0 : BitVec 32 := BitVec.ofNat 32 (i 0).val
  let c2_i32_4 : BitVec 32 := 2#32
  let v17 : BitVec 32 := Scalar.remsi arg0 c2_i32_4
  let c0_i32_19 : BitVec 32 := 0#32
  let v39 : BitVec 1 := Scalar.cmpi .eq v17 c0_i32_19
  let v40 : BitVec 32 := Scalar.extui v39
  let c0_i32_20 : BitVec 32 := 0#32
  let v41 : BitVec 1 := Scalar.cmpi .ne v40 c0_i32_20
  v41

def k0_off13 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let c0_i32_34 : BitVec 32 := 0#32
  ![v18.toNat, 0]
def k0_off14 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let c0_i32_35 : BitVec 32 := 0#32
  let c0_i32_36 : BitVec 32 := 0#32
  ![v18.toNat, 0, 0]
def k0_off15 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_37 : BitVec 32 := 0#32
  let c0_i32_38 : BitVec 32 := 0#32
  ![v16.toNat, 0, 0]
def k0_off16 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let c1_i32_39 : BitVec 32 := 1#32
  ![v18.toNat, 1]
def k0_off17 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let c512_i32 : BitVec 32 := 512#32
  let c0_i32_40 : BitVec 32 := 0#32
  ![v18.toNat, 512, 0]
def k0_off18 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c512_i32_41 : BitVec 32 := 512#32
  let c0_i32_42 : BitVec 32 := 0#32
  ![v16.toNat, 512, 0]
def k0_off19 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let c2_i32_43 : BitVec 32 := 2#32
  ![v18.toNat, 2]
def k0_off20 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let c1024_i32 : BitVec 32 := 1024#32
  let c0_i32_44 : BitVec 32 := 0#32
  ![v18.toNat, 1024, 0]
def k0_off21 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1024_i32_45 : BitVec 32 := 1024#32
  let c0_i32_46 : BitVec 32 := 0#32
  ![v16.toNat, 1024, 0]
def k0_off22 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let c3_i32 : BitVec 32 := 3#32
  ![v18.toNat, 3]
def k0_off23 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let c1536_i32 : BitVec 32 := 1536#32
  let c0_i32_47 : BitVec 32 := 0#32
  ![v18.toNat, 1536, 0]
def k0_off24 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1536_i32_48 : BitVec 32 := 1536#32
  let c0_i32_49 : BitVec 32 := 0#32
  ![v16.toNat, 1536, 0]
def k0_off25 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c2_i32_5 : BitVec 32 := 2#32
  let v18 : BitVec 32 := Scalar.remsi v16 c2_i32_5
  let v42 : Index := Scalar.indexCast v18
  let c0_21 : Index := 0#32
  let c0_22 : Index := 0#32
  ![v42.toNat, 0, 0]
def k0_cond7 (i : grid0.Coords) : BitVec 1 :=
  let arg0 : BitVec 32 := BitVec.ofNat 32 (i 0).val
  let c2_i32_4 : BitVec 32 := 2#32
  let v17 : BitVec 32 := Scalar.remsi arg0 c2_i32_4
  let c1_i32_32 : BitVec 32 := 1#32
  let v62 : BitVec 1 := Scalar.cmpi .eq v17 c1_i32_32
  let v63 : BitVec 32 := Scalar.extui v62
  let c0_i32_33 : BitVec 32 := 0#32
  let v64 : BitVec 1 := Scalar.cmpi .ne v63 c0_i32_33
  v64

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c3_i32 : BitVec 32 := 3#32
  let v18 : BitVec 32 := Scalar.minsi v17 c3_i32
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x2048x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x2048x64 : Shape := ⟨3, ![4, 2048, 64]⟩
abbrev S4x2048x2048 : Shape := ⟨3, ![4, 2048, 2048]⟩
abbrev S4x2048x1 : Shape := ⟨3, ![4, 2048, 1]⟩
abbrev S64x64 : Shape := ⟨2, ![64, 64]⟩
abbrev S64 : Shape := ⟨1, ![64]⟩
abbrev S1x1x64 : Shape := ⟨3, ![1, 1, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x64, .f32⟩
  | .hbm, ⟨1, _⟩ => ⟨S4x2048x2048, .f32⟩
  | .hbm, ⟨2, _⟩ => ⟨S4x2048x1, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S4x2048x64, .f32⟩
  | .hbm, ⟨14, _⟩ => ⟨S1x1x64, .f32⟩
  | .hbm, ⟨15, _⟩ => ⟨S4x2048x64, .f32⟩
  | .hbm, ⟨16, _⟩ => ⟨S4x2048x64, .f32⟩
  | .hbm, ⟨17, _⟩ => ⟨S4x2048x64, .f32⟩
  | .hbm, ⟨18, _⟩ => ⟨S_, .f32⟩
  | .hbm, ⟨19, _⟩ => ⟨S4x2048x64, .f32⟩
  | .hbm, ⟨20, _⟩ => ⟨S4x2048x64, .f32⟩
  | .hbm, ⟨21, _⟩ => ⟨S4x2048x64, .f32⟩
  | .hbm, ⟨22, _⟩ => ⟨S1x1x64, .f32⟩
  | .hbm, ⟨23, _⟩ => ⟨S4x2048x64, .f32⟩
  | .hbm, ⟨24, _⟩ => ⟨S4x2048x64, .f32⟩
  | .hbm, ⟨25, _⟩ => ⟨S_, .f32⟩
  | .hbm, ⟨26, _⟩ => ⟨S4x2048x64, .f32⟩
  | .hbm, ⟨27, _⟩ => ⟨S4x2048x64, .f32⟩
  | .hbm, ⟨28, _⟩ => ⟨S4x2048x64, .f32⟩
  | .hbm, ⟨29, _⟩ => ⟨S1x1x64, .f32⟩
  | .hbm, ⟨30, _⟩ => ⟨S4x2048x64, .f32⟩
  | .hbm, ⟨31, _⟩ => ⟨S4x2048x64, .f32⟩
  | .hbm, ⟨32, _⟩ => ⟨S4x2048x64, .f32⟩
  | .hbm, ⟨33, _⟩ => ⟨S_, .f32⟩
  | .hbm, ⟨34, _⟩ => ⟨S4x2048x64, .f32⟩
  | .hbm, ⟨35, _⟩ => ⟨S4x2048x64, .f32⟩
  | .hbm, ⟨36, _⟩ => ⟨S4x2048x64, .f32⟩
  | .hbm, ⟨37, _⟩ => ⟨S1x1x64, .f32⟩
  | .hbm, ⟨38, _⟩ => ⟨S4x2048x64, .f32⟩
  | .hbm, ⟨39, _⟩ => ⟨S4x2048x64, .f32⟩
  | .hbm, ⟨40, _⟩ => ⟨S_, .f32⟩
  | .hbm, ⟨41, _⟩ => ⟨S4x2048x64, .f32⟩
  | .hbm, ⟨42, _⟩ => ⟨S4x2048x64, .f32⟩
  | .hbm, ⟨43, _⟩ => ⟨S4x2048x64, .f32⟩
  | .hbm, ⟨44, _⟩ => ⟨S1x1x64, .f32⟩
  | .hbm, ⟨45, _⟩ => ⟨S4x2048x64, .f32⟩
  | .hbm, ⟨46, _⟩ => ⟨S4x2048x64, .f32⟩
  | .hbm, ⟨47, _⟩ => ⟨S4x2048x64, .f32⟩
  | .hbm, ⟨48, _⟩ => ⟨S4x2048x64, .f32⟩
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call0_cst : Ref sig .tc := ⟨.hbm, 25, rfl⟩
abbrev main_call0_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_cst : Ref sig .tc := ⟨.hbm, 40, rfl⟩
abbrev main_call1_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Proof.KernelIdeal.Sched.lean ====
/-
The schedule of the eight grid points in closed form.  Point `t` works on batch element `t / 2`; an even point is a
first layer, an odd point a second layer.  The adjacency block of element `b` lives in slot `b % 2` of the two-slot
scratch and arrives in four row chunks, each on its own semaphore.
-/
module

public import proofs.«01_k».proof.Proof.Gen.KernelIdeal.Frame
public import proofs.«01_k».proof.Proof.Gen.KernelIdeal.Skeleton

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The slot of the scratch that holds element `n`'s adjacency block. -/
def sl (n : ℕ) : Fin 2 := ⟨n % 2, Nat.mod_lt _ (by decide)⟩
/-- Element `n` as one of the four blocks of the adjacency operand. -/
def bk (n : ℕ) : Fin 4 := ⟨n % 4, Nat.mod_lt _ (by decide)⟩

/-! ## The branch conditions -/

/-- The first point: the weights are combined and the first block is started. -/
abbrev isFirst (i : grid0.Coords) : Prop := (Scalar.cmpi .ne (Scalar.extui (Scalar.cmpi .eq (BitVec.ofNat 32 (i 0).val) 0#32)) 0#32) = 1#1
/-- A point that starts the next element's block. -/
abbrev starts (i : grid0.Coords) : Prop := k0_cond2 i = 1#1
/-- A point that waits for its own element's block. -/
abbrev waits (i : grid0.Coords) : Prop := k0_cond4 i = 1#1
/-- A first-layer point. -/
abbrev layerOne (i : grid0.Coords) : Prop := (Scalar.cmpi .ne (Scalar.extui (Scalar.cmpi .eq (Scalar.remsi (BitVec.ofNat 32 (i 0).val) 2#32) 0#32)) 0#32) = 1#1
/-- A second-layer point with an element after it. -/
abbrev prepares (i : grid0.Coords) : Prop := (Scalar.cmpi .ne (Scalar.extui (Scalar.andi (Scalar.cmpi .eq (Scalar.remsi (BitVec.ofNat 32 (i 0).val) 2#32) 1#32) (Scalar.cmpi .slt (Scalar.addi (BitVec.ofNat 32 (i 0).val) 1#32) 8#32))) 0#32) = 1#1
/-- A second-layer point: the output block is written. -/
abbrev layerTwo (i : grid0.Coords) : Prop := k0_cond7 i = 1#1

theorem isFirst_iff : ∀ t : Fin cfg0.N, isFirst (grid0.coords t) ↔ t.val = 0 :=
  (by decide +kernel : ∀ t : Fin grid0.N, isFirst (grid0.coords t) ↔ t.val = 0)
theorem starts_iff : ∀ t : Fin cfg0.N, starts (grid0.coords t) ↔ t.val % 2 = 0 ∧ t.val < 6 :=
  (by decide +kernel : ∀ t : Fin grid0.N, starts (grid0.coords t) ↔ t.val % 2 = 0 ∧ t.val < 6)
theorem waits_iff : ∀ t : Fin cfg0.N, waits (grid0.coords t) ↔ t.val % 2 = 0 :=
  (by decide +kernel : ∀ t : Fin grid0.N, waits (grid0.coords t) ↔ t.val % 2 = 0)
theorem layerOne_iff : ∀ t : Fin cfg0.N, layerOne (grid0.coords t) ↔ t.val % 2 = 0 :=
  (by decide +kernel : ∀ t : Fin grid0.N, layerOne (grid0.coords t) ↔ t.val % 2 = 0)
theorem prepares_iff : ∀ t : Fin cfg0.N, prepares (grid0.coords t) ↔ t.val % 2 = 1 ∧ t.val < 7 :=
  (by decide +kernel : ∀ t : Fin grid0.N, prepares (grid0.coords t) ↔ t.val % 2 = 1 ∧ t.val < 7)
theorem layerTwo_iff : ∀ t : Fin cfg0.N, layerTwo (grid0.coords t) ↔ t.val % 2 = 1 :=
  (by decide +kernel : ∀ t : Fin grid0.N, layerTwo (grid0.coords t) ↔ t.val % 2 = 1)

/-- The layer bit the bias is selected by. -/
abbrev layerBit (i : grid0.Coords) : BitVec 1 := Scalar.cmpi .eq (Scalar.remsi (BitVec.ofNat 32 (i 0).val) 2#32) 0#32
theorem layerBit_even : ∀ t : Fin cfg0.N, t.val % 2 = 0 → layerBit (grid0.coords t) = 1#1 :=
  (by decide +kernel : ∀ t : Fin grid0.N, t.val % 2 = 0 → layerBit (grid0.coords t) = 1#1)
theorem layerBit_odd : ∀ t : Fin cfg0.N, t.val % 2 = 1 → layerBit (grid0.coords t) = 0#1 :=
  (by decide +kernel : ∀ t : Fin grid0.N, t.val % 2 = 1 → layerBit (grid0.coords t) = 0#1)

/-! ## The memrefs the copies name -/

theorem inb_chunk (s : Fin 2) (k : Fin 4) : ∀ a, (![s.val, 512 * k.val, 0] : Fin 3 → Nat) a + S1x512x2048.size a ≤ S2x2048x2048.size a := by
  revert s k; decide
theorem inb_src (b : Fin 4) (k : Fin 4) : ∀ a, (![b.val, 512 * k.val, 0] : Fin 3 → Nat) a + S1x512x2048.size a ≤ S4x2048x2048.size a := by
  revert b k; decide
theorem inb_cell (s : Fin 2) (k : Fin 4) : ∀ a, (![s.val, k.val] : Fin 2 → Nat) a + S1x1.size a ≤ S2x4.size a := by
  revert s k; decide
theorem inb_slot (s : Fin 2) : ∀ a, (![s.val, 0, 0] : Fin 3 → Nat) a + S1x2048x2048.size a ≤ S2x2048x2048.size a := by
  revert s; decide

/-- The two-slot scratch and the adjacency operand, whole. -/
abbrev ringM : Memref sig .tc .vmem S2x2048x2048 .f32 := Memref.whole cc0_scratch1
abbrev adjM : Memref sig .tc .hbm S4x2048x2048 .f32 := Memref.whole main_arg1
/-- Row chunk `k` of slot `s`, a copy's destination. -/
def chunk (s : Fin 2) (k : Fin 4) : Memref sig .tc .vmem S512x2048 .f32 :=
  (ringM.slice (Rect.unit (s := S2x2048x2048) ![s.val, 512 * k.val, 0] S1x512x2048.size (inb_chunk s k)) (fun _ => rfl)).squeeze S512x2048 squeezes_S1x512x2048_S512x2048
/-- Row chunk `k` of block `b`, a copy's source. -/
def srcC (b : Fin 4) (k : Fin 4) : Memref sig .tc .hbm S512x2048 .f32 :=
  (adjM.slice (Rect.unit (s := S4x2048x2048) ![b.val, 512 * k.val, 0] S1x512x2048.size (inb_src b k)) (fun _ => rfl)).squeeze S512x2048 squeezes_S1x512x2048_S512x2048
/-- Slot `s`, whole. -/
def slotM (s : Fin 2) : Memref sig .tc .vmem S2048x2048 .f32 :=
  (ringM.slice (Rect.unit (s := S2x2048x2048) ![s.val, 0, 0] S1x2048x2048.size (inb_slot s)) (fun _ => rfl)).squeeze S2048x2048 (by decide : S1x2048x2048.Squeezes S2048x2048)
/-- The semaphore of chunk `k` of slot `s`. -/
def cell (s : Fin 2) (k : Fin 4) : DmaSems sig S_ :=
  (cc0_scratch2.slice (Rect.unit (s := S2x4) ![s.val, k.val] S1x1.size (inb_cell s k))).squeeze S_ squeezes_S1x1_S_
abbrev cellR (s : Fin 2) (k : Fin 4) : SemLoc sig := SemLoc.dma (cell s k).sem

/-! ## Each printed memref is one of these -/

theorem chunk_of {off : Fin 3 → Nat} {inb} {s : Fin 2} {k : Fin 4} (h : off = ![s.val, 512 * k.val, 0]) :
    (ringM.slice (Rect.unit (s := S2x2048x2048) off S1x512x2048.size inb) (fun _ => rfl)).squeeze S512x2048 squeezes_S1x512x2048_S512x2048 = chunk s k :=
  congrArg (fun M : Memref sig .tc .vmem S1x512x2048 .f32 => M.squeeze S512x2048 squeezes_S1x512x2048_S512x2048) (Memref.slice_unit_congr _ h _ _ (fun _ => rfl) (fun _ => rfl))
theorem srcC_of {off : Fin 3 → Nat} {inb} {b : Fin 4} {k : Fin 4} (h : off = ![b.val, 512 * k.val, 0]) :
    (adjM.slice (Rect.unit (s := S4x2048x2048) off S1x512x2048.size inb) (fun _ => rfl)).squeeze S512x2048 squeezes_S1x512x2048_S512x2048 = srcC b k :=
  congrArg (fun M : Memref sig .tc .hbm S1x512x2048 .f32 => M.squeeze S512x2048 squeezes_S1x512x2048_S512x2048) (Memref.slice_unit_congr _ h _ _ (fun _ => rfl) (fun _ => rfl))
theorem cell_of {off : Fin 2 → Nat} {inb} {s : Fin 2} {k : Fin 4} (h : off = ![s.val, k.val]) :
    (cc0_scratch2.slice (Rect.unit (s := S2x4) off S1x1.size inb)).squeeze S_ squeezes_S1x1_S_ = cell s k :=
  congrArg (fun A : DmaSems sig S1x1 => A.squeeze S_ squeezes_S1x1_S_) (SemArray.slice_unit_congr _ h _ _)

/-! ### The first point's starts, at literal offsets -/

theorem chunk_first_0 (t : Fin grid0.N) (h : isFirst (grid0.coords t)) :
    (ringM.slice (Rect.unit (s := S2x2048x2048) ![0, 0, 0] S1x512x2048.size inb_S2x2048x2048_S1x512x2048_0_0_0) (fun _ => rfl)).squeeze S512x2048 squeezes_S1x512x2048_S512x2048 = chunk (sl (t.val / 2)) 0 :=
  chunk_of ((by decide +kernel : ∀ t : Fin grid0.N, isFirst (grid0.coords t) → (![0, 0, 0] : Fin 3 → Nat) = ![(sl (t.val / 2)).val, 512 * (0 : Fin 4).val, 0]) t h)
theorem src_first_0 (t : Fin grid0.N) (h : isFirst (grid0.coords t)) :
    (adjM.slice (Rect.unit (s := S4x2048x2048) ![0, 0, 0] S1x512x2048.size inb_S4x2048x2048_S1x512x2048_0_0_0) (fun _ => rfl)).squeeze S512x2048 squeezes_S1x512x2048_S512x2048 = srcC (bk (t.val / 2)) 0 :=
  srcC_of ((by decide +kernel : ∀ t : Fin grid0.N, isFirst (grid0.coords t) → (![0, 0, 0] : Fin 3 → Nat) = ![(bk (t.val / 2)).val, 512 * (0 : Fin 4).val, 0]) t h)
theorem cell_first_0 (t : Fin grid0.N) (h : isFirst (grid0.coords t)) :
    (cc0_scratch2.slice (Rect.unit (s := S2x4) ![0, 0] S1x1.size inb_S2x4_S1x1_0_0)).squeeze S_ squeezes_S1x1_S_ = cell (sl (t.val / 2)) 0 :=
  cell_of ((by decide +kernel : ∀ t : Fin grid0.N, isFirst (grid0.coords t) → (![0, 0] : Fin 2 → Nat) = ![(sl (t.val / 2)).val, (0 : Fin 4).val]) t h)
theorem chunk_first_1 (t : Fin grid0.N) (h : isFirst (grid0.coords t)) :
    (ringM.slice (Rect.unit (s := S2x2048x2048) ![0, 512, 0] S1x512x2048.size inb_S2x2048x2048_S1x512x2048_0_512_0) (fun _ => rfl)).squeeze S512x2048 squeezes_S1x512x2048_S512x2048 = chunk (sl (t.val / 2)) 1 :=
  chunk_of ((by decide +kernel : ∀ t : Fin grid0.N, isFirst (grid0.coords t) → (![0, 512, 0] : Fin 3 → Nat) = ![(sl (t.val / 2)).val, 512 * (1 : Fin 4).val, 0]) t h)
theorem src_first_1 (t : Fin grid0.N) (h : isFirst (grid0.coords t)) :
    (adjM.slice (Rect.unit (s := S4x2048x2048) ![0, 512, 0] S1x512x2048.size inb_S4x2048x2048_S1x512x2048_0_512_0) (fun _ => rfl)).squeeze S512x2048 squeezes_S1x512x2048_S512x2048 = srcC (bk (t.val / 2)) 1 :=
  srcC_of ((by decide +kernel : ∀ t : Fin grid0.N, isFirst (grid0.coords t) → (![0, 512, 0] : Fin 3 → Nat) = ![(bk (t.val / 2)).val, 512 * (1 : Fin 4).val, 0]) t h)
theorem cell_first_1 (t : Fin grid0.N) (h : isFirst (grid0.coords t)) :
    (cc0_scratch2.slice (Rect.unit (s := S2x4) ![0, 1] S1x1.size inb_S2x4_S1x1_0_1)).squeeze S_ squeezes_S1x1_S_ = cell (sl (t.val / 2)) 1 :=
  cell_of ((by decide +kernel : ∀ t : Fin grid0.N, isFirst (grid0.coords t) → (![0, 1] : Fin 2 → Nat) = ![(sl (t.val / 2)).val, (1 : Fin 4).val]) t h)
theorem chunk_first_2 (t : Fin grid0.N) (h : isFirst (grid0.coords t)) :
    (ringM.slice (Rect.unit (s := S2x2048x2048) ![0, 1024, 0] S1x512x2048.size inb_S2x2048x2048_S1x512x2048_0_1024_0) (fun _ => rfl)).squeeze S512x2048 squeezes_S1x512x2048_S512x2048 = chunk (sl (t.val / 2)) 2 :=
  chunk_of ((by decide +kernel : ∀ t : Fin grid0.N, isFirst (grid0.coords t) → (![0, 1024, 0] : Fin 3 → Nat) = ![(sl (t.val / 2)).val, 512 * (2 : Fin 4).val, 0]) t h)
theorem src_first_2 (t : Fin grid0.N) (h : isFirst (grid0.coords t)) :
    (adjM.slice (Rect.unit (s := S4x2048x2048) ![0, 1024, 0] S1x512x2048.size inb_S4x2048x2048_S1x512x2048_0_1024_0) (fun _ => rfl)).squeeze S512x2048 squeezes_S1x512x2048_S512x2048 = srcC (bk (t.val / 2)) 2 :=
  srcC_of ((by decide +kernel : ∀ t : Fin grid0.N, isFirst (grid0.coords t) → (![0, 1024, 0] : Fin 3 → Nat) = ![(bk (t.val / 2)).val, 512 * (2 : Fin 4).val, 0]) t h)
theorem cell_first_2 (t : Fin grid0.N) (h : isFirst (grid0.coords t)) :
    (cc0_scratch2.slice (Rect.unit (s := S2x4) ![0, 2] S1x1.size inb_S2x4_S1x1_0_2)).squeeze S_ squeezes_S1x1_S_ = cell (sl (t.val / 2)) 2 :=
  cell_of ((by decide +kernel : ∀ t : Fin grid0.N, isFirst (grid0.coords t) → (![0, 2] : Fin 2 → Nat) = ![(sl (t.val / 2)).val, (2 : Fin 4).val]) t h)
theorem chunk_first_3 (t : Fin grid0.N) (h : isFirst (grid0.coords t)) :
    (ringM.slice (Rect.unit (s := S2x2048x2048) ![0, 1536, 0] S1x512x2048.size inb_S2x2048x2048_S1x512x2048_0_1536_0) (fun _ => rfl)).squeeze S512x2048 squeezes_S1x512x2048_S512x2048 = chunk (sl (t.val / 2)) 3 :=
  chunk_of ((by decide +kernel : ∀ t : Fin grid0.N, isFirst (grid0.coords t) → (![0, 1536, 0] : Fin 3 → Nat) = ![(sl (t.val / 2)).val, 512 * (3 : Fin 4).val, 0]) t h)
theorem src_first_3 (t : Fin grid0.N) (h : isFirst (grid0.coords t)) :
    (adjM.slice (Rect.unit (s := S4x2048x2048) ![0, 1536, 0] S1x512x2048.size inb_S4x2048x2048_S1x512x2048_0_1536_0) (fun _ => rfl)).squeeze S512x2048 squeezes_S1x512x2048_S512x2048 = srcC (bk (t.val / 2)) 3 :=
  srcC_of ((by decide +kernel : ∀ t : Fin grid0.N, isFirst (grid0.coords t) → (![0, 1536, 0] : Fin 3 → Nat) = ![(bk (t.val / 2)).val, 512 * (3 : Fin 4).val, 0]) t h)
theorem cell_first_3 (t : Fin grid0.N) (h : isFirst (grid0.coords t)) :
    (cc0_scratch2.slice (Rect.unit (s := S2x4) ![0, 3] S1x1.size inb_S2x4_S1x1_0_3)).squeeze S_ squeezes_S1x1_S_ = cell (sl (t.val / 2)) 3 :=
  cell_of ((by decide +kernel : ∀ t : Fin grid0.N, isFirst (grid0.coords t) → (![0, 3] : Fin 2 → Nat) = ![(sl (t.val / 2)).val, (3 : Fin 4).val]) t h)

/-! ### The next element's starts -/

@[sl_canon] theorem cell_next_0 (t : Fin grid0.N) (h : starts (grid0.coords t)) :
    (cc0_scratch2.slice (Rect.unit (s := S2x4) (k0_off1 (grid0.coords t)) S1x1.size (k0_off1_inb (grid0.coords t) h))).squeeze S_ squeezes_S1x1_S_ = cell (sl (t.val / 2 + 1)) 0 :=
  cell_of ((by decide +kernel : ∀ t : Fin grid0.N, starts (grid0.coords t) → k0_off1 (grid0.coords t) = ![(sl (t.val / 2 + 1)).val, (0 : Fin 4).val]) t h)
@[sl_canon] theorem chunk_next_0 (t : Fin grid0.N) (h : starts (grid0.coords t)) :
    (ringM.slice (Rect.unit (s := S2x2048x2048) (k0_off2 (grid0.coords t)) S1x512x2048.size (k0_off2_inb (grid0.coords t) h)) (fun _ => rfl)).squeeze S512x2048 squeezes_S1x512x2048_S512x2048 = chunk (sl (t.val / 2 + 1)) 0 :=
  chunk_of ((by decide +kernel : ∀ t : Fin grid0.N, starts (grid0.coords t) → k0_off2 (grid0.coords t) = ![(sl (t.val / 2 + 1)).val, 512 * (0 : Fin 4).val, 0]) t h)
@[sl_canon] theorem srcC_next_0 (t : Fin grid0.N) (h : starts (grid0.coords t)) :
    (adjM.slice (Rect.unit (s := S4x2048x2048) (k0_off3 (grid0.coords t)) S1x512x2048.size (k0_off3_inb (grid0.coords t) h)) (fun _ => rfl)).squeeze S512x2048 squeezes_S1x512x2048_S512x2048 = srcC (bk (t.val / 2 + 1)) 0 :=
  srcC_of ((by decide +kernel : ∀ t : Fin grid0.N, starts (grid0.coords t) → k0_off3 (grid0.coords t) = ![(bk (t.val / 2 + 1)).val, 512 * (0 : Fin 4).val, 0]) t h)
@[sl_canon] theorem cell_next_1 (t : Fin grid0.N) (h : starts (grid0.coords t)) :
    (cc0_scratch2.slice (Rect.unit (s := S2x4) (k0_off4 (grid0.coords t)) S1x1.size (k0_off4_inb (grid0.coords t) h))).squeeze S_ squeezes_S1x1_S_ = cell (sl (t.val / 2 + 1)) 1 :=
  cell_of ((by decide +kernel : ∀ t : Fin grid0.N, starts (grid0.coords t) → k0_off4 (grid0.coords t) = ![(sl (t.val / 2 + 1)).val, (1 : Fin 4).val]) t h)
@[sl_canon] theorem chunk_next_1 (t : Fin grid0.N) (h : starts (grid0.coords t)) :
    (ringM.slice (Rect.unit (s := S2x2048x2048) (k0_off5 (grid0.coords t)) S1x512x2048.size (k0_off5_inb (grid0.coords t) h)) (fun _ => rfl)).squeeze S512x2048 squeezes_S1x512x2048_S512x2048 = chunk (sl (t.val / 2 + 1)) 1 :=
  chunk_of ((by decide +kernel : ∀ t : Fin grid0.N, starts (grid0.coords t) → k0_off5 (grid0.coords t) = ![(sl (t.val / 2 + 1)).val, 512 * (1 : Fin 4).val, 0]) t h)
@[sl_canon] theorem srcC_next_1 (t : Fin grid0.N) (h : starts (grid0.coords t)) :
    (adjM.slice (Rect.unit (s := S4x2048x2048) (k0_off6 (grid0.coords t)) S1x512x2048.size (k0_off6_inb (grid0.coords t) h)) (fun _ => rfl)).squeeze S512x2048 squeezes_S1x512x2048_S512x2048 = srcC (bk (t.val / 2 + 1)) 1 :=
  srcC_of ((by decide +kernel : ∀ t : Fin grid0.N, starts (grid0.coords t) → k0_off6 (grid0.coords t) = ![(bk (t.val / 2 + 1)).val, 512 * (1 : Fin 4).val, 0]) t h)
@[sl_canon] theorem cell_next_2 (t : Fin grid0.N) (h : starts (grid0.coords t)) :
    (cc0_scratch2.slice (Rect.unit (s := S2x4) (k0_off7 (grid0.coords t)) S1x1.size (k0_off7_inb (grid0.coords t) h))).squeeze S_ squeezes_S1x1_S_ = cell (sl (t.val / 2 + 1)) 2 :=
  cell_of ((by decide +kernel : ∀ t : Fin grid0.N, starts (grid0.coords t) → k0_off7 (grid0.coords t) = ![(sl (t.val / 2 + 1)).val, (2 : Fin 4).val]) t h)
@[sl_canon] theorem chunk_next_2 (t : Fin grid0.N) (h : starts (grid0.coords t)) :
    (ringM.slice (Rect.unit (s := S2x2048x2048) (k0_off8 (grid0.coords t)) S1x512x2048.size (k0_off8_inb (grid0.coords t) h)) (fun _ => rfl)).squeeze S512x2048 squeezes_S1x512x2048_S512x2048 = chunk (sl (t.val / 2 + 1)) 2 :=
  chunk_of ((by decide +kernel : ∀ t : Fin grid0.N, starts (grid0.coords t) → k0_off8 (grid0.coords t) = ![(sl (t.val / 2 + 1)).val, 512 * (2 : Fin 4).val, 0]) t h)
@[sl_canon] theorem srcC_next_2 (t : Fin grid0.N) (h : starts (grid0.coords t)) :
    (adjM.slice (Rect.unit (s := S4x2048x2048) (k0_off9 (grid0.coords t)) S1x512x2048.size (k0_off9_inb (grid0.coords t) h)) (fun _ => rfl)).squeeze S512x2048 squeezes_S1x512x2048_S512x2048 = srcC (bk (t.val / 2 + 1)) 2 :=
  srcC_of ((by decide +kernel : ∀ t : Fin grid0.N, starts (grid0.coords t) → k0_off9 (grid0.coords t) = ![(bk (t.val / 2 + 1)).val, 512 * (2 : Fin 4).val, 0]) t h)
@[sl_canon] theorem cell_next_3 (t : Fin grid0.N) (h : starts (grid0.coords t)) :
    (cc0_scratch2.slice (Rect.unit (s := S2x4) (k0_off10 (grid0.coords t)) S1x1.size (k0_off10_inb (grid0.coords t) h))).squeeze S_ squeezes_S1x1_S_ = cell (sl (t.val / 2 + 1)) 3 :=
  cell_of ((by decide +kernel : ∀ t : Fin grid0.N, starts (grid0.coords t) → k0_off10 (grid0.coords t) = ![(sl (t.val / 2 + 1)).val, (3 : Fin 4).val]) t h)
@[sl_canon] theorem chunk_next_3 (t : Fin grid0.N) (h : starts (grid0.coords t)) :
    (ringM.slice (Rect.unit (s := S2x2048x2048) (k0_off11 (grid0.coords t)) S1x512x2048.size (k0_off11_inb (grid0.coords t) h)) (fun _ => rfl)).squeeze S512x2048 squeezes_S1x512x2048_S512x2048 = chunk (sl (t.val / 2 + 1)) 3 :=
  chunk_of ((by decide +kernel : ∀ t : Fin grid0.N, starts (grid0.coords t) → k0_off11 (grid0.coords t) = ![(sl (t.val / 2 + 1)).val, 512 * (3 : Fin 4).val, 0]) t h)
@[sl_canon] theorem srcC_next_3 (t : Fin grid0.N) (h : starts (grid0.coords t)) :
    (adjM.slice (Rect.unit (s := S4x2048x2048) (k0_off12 (grid0.coords t)) S1x512x2048.size (k0_off12_inb (grid0.coords t) h)) (fun _ => rfl)).squeeze S512x2048 squeezes_S1x512x2048_S512x2048 = srcC (bk (t.val / 2 + 1)) 3 :=
  srcC_of ((by decide +kernel : ∀ t : Fin grid0.N, starts (grid0.coords t) → k0_off12 (grid0.coords t) = ![(bk (t.val / 2 + 1)).val, 512 * (3 : Fin 4).val, 0]) t h)

/-! ### The waits -/

@[sl_canon] theorem cell_own_0 (t : Fin grid0.N) (h : waits (grid0.coords t)) :
    (cc0_scratch2.slice (Rect.unit (s := S2x4) (k0_off13 (grid0.coords t)) S1x1.size (k0_off13_inb (grid0.coords t) h))).squeeze S_ squeezes_S1x1_S_ = cell (sl (t.val / 2)) 0 :=
  cell_of ((by decide +kernel : ∀ t : Fin grid0.N, waits (grid0.coords t) → k0_off13 (grid0.coords t) = ![(sl (t.val / 2)).val, (0 : Fin 4).val]) t h)
@[sl_canon] theorem chunk_own_0 (t : Fin grid0.N) (h : waits (grid0.coords t)) :
    (ringM.slice (Rect.unit (s := S2x2048x2048) (k0_off14 (grid0.coords t)) S1x512x2048.size (k0_off14_inb (grid0.coords t) h)) (fun _ => rfl)).squeeze S512x2048 squeezes_S1x512x2048_S512x2048 = chunk (sl (t.val / 2)) 0 :=
  chunk_of ((by decide +kernel : ∀ t : Fin grid0.N, waits (grid0.coords t) → k0_off14 (grid0.coords t) = ![(sl (t.val / 2)).val, 512 * (0 : Fin 4).val, 0]) t h)
@[sl_canon] theorem srcC_own_0 (t : Fin grid0.N) (h : waits (grid0.coords t)) :
    (adjM.slice (Rect.unit (s := S4x2048x2048) (k0_off15 (grid0.coords t)) S1x512x2048.size (k0_off15_inb (grid0.coords t) h)) (fun _ => rfl)).squeeze S512x2048 squeezes_S1x512x2048_S512x2048 = srcC (bk (t.val / 2)) 0 :=
  srcC_of ((by decide +kernel : ∀ t : Fin grid0.N, waits (grid0.coords t) → k0_off15 (grid0.coords t) = ![(bk (t.val / 2)).val, 512 * (0 : Fin 4).val, 0]) t h)
@[sl_canon] theorem cell_own_1 (t : Fin grid0.N) (h : waits (grid0.coords t)) :
    (cc0_scratch2.slice (Rect.unit (s := S2x4) (k0_off16 (grid0.coords t)) S1x1.size (k0_off16_inb (grid0.coords t) h))).squeeze S_ squeezes_S1x1_S_ = cell (sl (t.val / 2)) 1 :=
  cell_of ((by decide +kernel : ∀ t : Fin grid0.N, waits (grid0.coords t) → k0_off16 (grid0.coords t) = ![(sl (t.val / 2)).val, (1 : Fin 4).val]) t h)
@[sl_canon] theorem chunk_own_1 (t : Fin grid0.N) (h : waits (grid0.coords t)) :
    (ringM.slice (Rect.unit (s := S2x2048x2048) (k0_off17 (grid0.coords t)) S1x512x2048.size (k0_off17_inb (grid0.coords t) h)) (fun _ => rfl)).squeeze S512x2048 squeezes_S1x512x2048_S512x2048 = chunk (sl (t.val / 2)) 1 :=
  chunk_of ((by decide +kernel : ∀ t : Fin grid0.N, waits (grid0.coords t) → k0_off17 (grid0.coords t) = ![(sl (t.val / 2)).val, 512 * (1 : Fin 4).val, 0]) t h)
@[sl_canon] theorem srcC_own_1 (t : Fin grid0.N) (h : waits (grid0.coords t)) :
    (adjM.slice (Rect.unit (s := S4x2048x2048) (k0_off18 (grid0.coords t)) S1x512x2048.size (k0_off18_inb (grid0.coords t) h)) (fun _ => rfl)).squeeze S512x2048 squeezes_S1x512x2048_S512x2048 = srcC (bk (t.val / 2)) 1 :=
  srcC_of ((by decide +kernel : ∀ t : Fin grid0.N, waits (grid0.coords t) → k0_off18 (grid0.coords t) = ![(bk (t.val / 2)).val, 512 * (1 : Fin 4).val, 0]) t h)
@[sl_canon] theorem cell_own_2 (t : Fin grid0.N) (h : waits (grid0.coords t)) :
    (cc0_scratch2.slice (Rect.unit (s := S2x4) (k0_off19 (grid0.coords t)) S1x1.size (k0_off19_inb (grid0.coords t) h))).squeeze S_ squeezes_S1x1_S_ = cell (sl (t.val / 2)) 2 :=
  cell_of ((by decide +kernel : ∀ t : Fin grid0.N, waits (grid0.coords t) → k0_off19 (grid0.coords t) = ![(sl (t.val / 2)).val, (2 : Fin 4).val]) t h)
@[sl_canon] theorem chunk_own_2 (t : Fin grid0.N) (h : waits (grid0.coords t)) :
    (ringM.slice (Rect.unit (s := S2x2048x2048) (k0_off20 (grid0.coords t)) S1x512x2048.size (k0_off20_inb (grid0.coords t) h)) (fun _ => rfl)).squeeze S512x2048 squeezes_S1x512x2048_S512x2048 = chunk (sl (t.val / 2)) 2 :=
  chunk_of ((by decide +kernel : ∀ t : Fin grid0.N, waits (grid0.coords t) → k0_off20 (grid0.coords t) = ![(sl (t.val / 2)).val, 512 * (2 : Fin 4).val, 0]) t h)
@[sl_canon] theorem srcC_own_2 (t : Fin grid0.N) (h : waits (grid0.coords t)) :
    (adjM.slice (Rect.unit (s := S4x2048x2048) (k0_off21 (grid0.coords t)) S1x512x2048.size (k0_off21_inb (grid0.coords t) h)) (fun _ => rfl)).squeeze S512x2048 squeezes_S1x512x2048_S512x2048 = srcC (bk (t.val / 2)) 2 :=
  srcC_of ((by decide +kernel : ∀ t : Fin grid0.N, waits (grid0.coords t) → k0_off21 (grid0.coords t) = ![(bk (t.val / 2)).val, 512 * (2 : Fin 4).val, 0]) t h)
@[sl_canon] theorem cell_own_3 (t : Fin grid0.N) (h : waits (grid0.coords t)) :
    (cc0_scratch2.slice (Rect.unit (s := S2x4) (k0_off22 (grid0.coords t)) S1x1.size (k0_off22_inb (grid0.coords t) h))).squeeze S_ squeezes_S1x1_S_ = cell (sl (t.val / 2)) 3 :=
  cell_of ((by decide +kernel : ∀ t : Fin grid0.N, waits (grid0.coords t) → k0_off22 (grid0.coords t) = ![(sl (t.val / 2)).val, (3 : Fin 4).val]) t h)
@[sl_canon] theorem chunk_own_3 (t : Fin grid0.N) (h : waits (grid0.coords t)) :
    (ringM.slice (Rect.unit (s := S2x2048x2048) (k0_off23 (grid0.coords t)) S1x512x2048.size (k0_off23_inb (grid0.coords t) h)) (fun _ => rfl)).squeeze S512x2048 squeezes_S1x512x2048_S512x2048 = chunk (sl (t.val / 2)) 3 :=
  chunk_of ((by decide +kernel : ∀ t : Fin grid0.N, waits (grid0.coords t) → k0_off23 (grid0.coords t) = ![(sl (t.val / 2)).val, 512 * (3 : Fin 4).val, 0]) t h)
@[sl_canon] theorem srcC_own_3 (t : Fin grid0.N) (h : waits (grid0.coords t)) :
    (adjM.slice (Rect.unit (s := S4x2048x2048) (k0_off24 (grid0.coords t)) S1x512x2048.size (k0_off24_inb (grid0.coords t) h)) (fun _ => rfl)).squeeze S512x2048 squeezes_S1x512x2048_S512x2048 = srcC (bk (t.val / 2)) 3 :=
  srcC_of ((by decide +kernel : ∀ t : Fin grid0.N, waits (grid0.coords t) → k0_off24 (grid0.coords t) = ![(bk (t.val / 2)).val, 512 * (3 : Fin 4).val, 0]) t h)

/-! ### The block load's box -/

theorem load_off : ∀ t : Fin grid0.N, k0_off25 (grid0.coords t) = ![(sl (t.val / 2)).val, 0, 0] := by decide +kernel
instance (priority := high) closedOff_load (t : Fin grid0.N) : ClosedOff (k0_off25 (grid0.coords t)) := ⟨![(sl (t.val / 2)).val, 0, 0], load_off t⟩

end Cert.KernelIdeal.Gcn

end
-- ==== Proof.KernelIdeal.Ring.lean ====
/-
What the body holds of the adjacency operand: the two slots of the scratch by chunks, the eight semaphores, and eight
read copies of the operand, one lent to each copy in flight.  A block that has landed is described by `fill`, whichever
contents it was copied over, so that its four chunks join to the whole block.
-/
module

public import proofs.«01_k».proof.Proof.KernelIdeal.Sched

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Pieces
variable (c : Dev nD) (W : Buf (Elt F) ((c : Thread nD τ).loc main_arg1))

/-- The `k`-th quarter of a share. -/
def quarter (q : PosShare TreeShare) (k : Fin 4) : PosShare TreeShare :=
  match k with
  | 0 => q.left.left
  | 1 => q.left.right
  | 2 => q.right.left
  | 3 => q.right.right
/-- The read share of the operand that chunk `k` of slot `s` borrows. -/
abbrev qs (s : Fin 2) (k : Fin 4) : PosShare TreeShare := quarter (if s.val = 0 then fullShare.left else fullShare.right) k

/-- Chunk `k` of slot `s`, held at `f`. -/
abbrev slotP (s : Fin 2) (k : Fin 4) (f : Buf (Elt F) ((chunk s k).view.loc (c : Thread nD τ))) : sProp 𝕄 :=
  (chunk s k).view.loc (c : Thread nD τ) ↦[(chunk s k).view.set]{fullShare} f
/-- Its semaphore at zero. -/
abbrev cellP (s : Fin 2) (k : Fin 4) : sProp 𝕄 := semVal ((c : Thread nD τ), cellR s k) 0
/-- Its read copy of the operand: whole, the chunk of block `b` in it, and the rest. -/
abbrev wholeP (s : Fin 2) (k : Fin 4) : sProp 𝕄 := ((c : Thread nD τ).loc main_arg1) ↦[Finset.univ]{qs s k} W
abbrev srcP (s : Fin 2) (k : Fin 4) (b : Fin 4) : sProp 𝕄 :=
  (srcC b k).view.loc (c : Thread nD τ) ↦[(srcC b k).view.set]{qs s k} W
def restP (s : Fin 2) (k : Fin 4) (b : Fin 4) : sProp 𝕄 :=
  ((c : Thread nD τ).loc main_arg1) ↦[Finset.univ \ (srcC b k).view.set]{qs s k} W
/-- What a copy leaves in its chunk, as the machine writes it. -/
abbrev landed (s : Fin 2) (k : Fin 4) (b : Fin 4) (f : Buf (Elt F) ((chunk s k).view.loc (c : Thread nD τ))) :
    Buf (Elt F) ((chunk s k).view.loc (c : Thread nD τ)) :=
  (chunk s k).view.writes (Elt F) f [⟨Rect.whole S512x2048, ReadAs.same.apply ((srcC b k).view.read (Elt F) W)⟩]
/-- The scratch with block `b` in every slot. -/
def fill (b : Fin 4) : Buf (Elt F) ((c : Thread nD τ).loc cc0_scratch1) :=
  fun i : S2x2048x2048.Idx => W (Fin.cons (α := fun a => S4x2048x2048.Coord a) b (fun a => i a.succ))
/-- A copy of chunk `k` of block `b` in flight into slot `s`. -/
abbrev flightP (s : Fin 2) (k : Fin 4) (b : Fin 4) (g : Buf (Elt F) ((chunk s k).view.loc (c : Thread nD τ))) : sProp 𝕄 :=
  Transfers.Flight countersEmb (c : Thread nD τ) (cellR s k) default 131072
    iprop(slotP c s k g ∗ srcP c W s k b)

theorem src_split (s : Fin 2) (k : Fin 4) (b : Fin 4) : wholeP (F := F) c W s k ⊣⊢ iprop(srcP c W s k b ∗ restP c W s k b) := by
  unfold restP; exact pointsTo_split_subset (Finset.subset_univ _)

/-! ## A landed chunk is the block's -/

omit [FloatOps F] in
theorem fill_chunk (s : Fin 2) (k : Fin 4) (b : Fin 4) :
    (chunk s k).view.read (Elt F) (fill c W b) = (srcC b k).view.read (Elt F) W := by
  have h : ∀ x : S1x512x2048.Idx,
      fill c W b ((Rect.unit (s := S2x2048x2048) ![s.val, 512 * k.val, 0] S1x512x2048.size (inb_chunk s k)).emb x)
        = W ((Rect.unit (s := S4x2048x2048) ![b.val, 512 * k.val, 0] S1x512x2048.size (inb_src b k)).emb x) := fun x => by
    refine congrArg W (funext fun a => Fin.ext ?_)
    have h0 : (x 0).val < 1 := (x 0).isLt
    fin_cases a
    · show b.val = b.val + 1 * (x 0).val
      omega
    · rfl
    · rfl
  exact funext fun j => h _
/-- Held by its own elements after one whole piece, a memref is held at any contents that read that piece. -/
theorem landed_as {sp : Space} {sh : Shape} {e : EltTy} (m : Memref sig (c : Thread nD τ).2.kind sp sh e)
    (f g : Buf (Elt F) (m.view.loc (c : Thread nD τ))) (x : sh.Idx → Elt F e) (h : m.view.read (Elt F) g = x) :
    (m.view.loc (c : Thread nD τ) ↦[m.view.set]{fullShare} m.view.writes (Elt F) f [⟨Rect.whole sh, x⟩] : sProp 𝕄)
      = m.view.loc (c : Thread nD τ) ↦[m.view.set]{fullShare} g := by
  subst h
  rw [pointsTo_rep (c : Thread nD τ) m, View.read_writes_whole, ← pointsTo_rep (c : Thread nD τ) m]
/-- A chunk a copy has landed in is held at the block, whatever it was copied over. -/
theorem landed_eq (s : Fin 2) (k : Fin 4) (b : Fin 4) (f) :
    slotP (F := F) c s k (landed c W s k b f) = slotP c s k (fill c W b) :=
  landed_as c (chunk s k) f (fill c W b) ((srcC b k).view.read (Elt F) W) (fill_chunk c W s k b)

theorem landed_fill (s : Fin 2) (k : Fin 4) (b : Fin 4) (f) :
    slotP (F := F) c s k (landed c W s k b f) ⊢ slotP c s k (fill c W b) := by rw [landed_eq]

/-- So a copy in flight delivers the block. -/
theorem flight_fill (s : Fin 2) (k : Fin 4) (b : Fin 4) (f) :
    flightP (F := F) c W s k b (landed c W s k b f) ⊢ flightP c W s k b (fill c W b) := by
  unfold flightP; rw [landed_eq]

/-! ## A slot is its four chunks -/

/-- Four conjuncts, one a chunk. -/
abbrev four (P : Fin 4 → sProp 𝕄) : sProp 𝕄 := iprop(P 0 ∗ P 1 ∗ P 2 ∗ P 3)
omit [FloatOps F] in
theorem bigSep_four (P : Fin 4 → sProp 𝕄) : bigSep Finset.univ P = four P :=
  bigSep_univ_eq_bigSepL [0, 1, 2, 3] (by decide) (by decide) P

abbrev chunkSet (s : Fin 2) (k : Fin 4) : Finset S2x2048x2048.Idx :=
  (Rect.unit (s := S2x2048x2048) ![s.val, 512 * k.val, 0] S1x512x2048.size (inb_chunk s k)).set
abbrev slotSet (s : Fin 2) : Finset S2x2048x2048.Idx :=
  (Rect.unit (s := S2x2048x2048) ![s.val, 0, 0] S1x2048x2048.size (inb_slot s)).set
theorem chunk_set (s : Fin 2) (k : Fin 4) : (chunk s k).view.set = chunkSet s k := by
  simp only [chunk, Memref.view_squeeze, View.set_reshape]; exact View.set_slice_whole _ _
theorem slot_set (s : Fin 2) : (slotM s).view.set = slotSet s := by
  simp only [slotM, Memref.view_squeeze, View.set_reshape]; exact View.set_slice_whole _ _
theorem mem_chunkSet (s : Fin 2) (k : Fin 4) (i : S2x2048x2048.Idx) :
    i ∈ chunkSet s k ↔ (i 0).val = s.val ∧ (i 1).val / 512 = k.val := by
  have h2 : (i 2).val < 2048 := (i 2).isLt
  rw [Rect.mem_set_unit]
  constructor
  · intro h
    have e0 : s.val ≤ (i 0).val ∧ (i 0).val < s.val + 1 := h 0
    have e1 : 512 * k.val ≤ (i 1).val ∧ (i 1).val < 512 * k.val + 512 := h 1
    omega
  · rintro ⟨e0, e1⟩ a
    fin_cases a
    · show s.val ≤ (i 0).val ∧ (i 0).val < s.val + 1
      omega
    · show 512 * k.val ≤ (i 1).val ∧ (i 1).val < 512 * k.val + 512
      omega
    · show 0 ≤ (i 2).val ∧ (i 2).val < 0 + 2048
      omega
theorem mem_slotSet (s : Fin 2) (i : S2x2048x2048.Idx) : i ∈ slotSet s ↔ (i 0).val = s.val := by
  have h1 : (i 1).val < 2048 := (i 1).isLt
  have h2 : (i 2).val < 2048 := (i 2).isLt
  rw [Rect.mem_set_unit]
  constructor
  · intro h
    have e0 : s.val ≤ (i 0).val ∧ (i 0).val < s.val + 1 := h 0
    omega
  · rintro e0 a
    fin_cases a
    · show s.val ≤ (i 0).val ∧ (i 0).val < s.val + 1
      omega
    · show 0 ≤ (i 1).val ∧ (i 1).val < 0 + 2048
      omega
    · show 0 ≤ (i 2).val ∧ (i 2).val < 0 + 2048
      omega
theorem slot_chunks (s : Fin 2) : Finset.univ.biUnion (chunkSet s) = slotSet s := by
  ext i
  have h1 : (i 1).val < 2048 := (i 1).isLt
  simp only [Finset.mem_biUnion, Finset.mem_univ, true_and, mem_chunkSet, mem_slotSet]
  exact ⟨fun ⟨_, h, _⟩ => h, fun h => ⟨⟨(i 1).val / 512, by omega⟩, h, rfl⟩⟩
theorem chunks_disjoint (s : Fin 2) : ∀ k ∈ (Finset.univ : Finset (Fin 4)), ∀ k' ∈ (Finset.univ : Finset (Fin 4)), k ≠ k' →
    Disjoint (chunkSet s k) (chunkSet s k') := fun k _ k' _ h =>
  Finset.disjoint_left.mpr fun i hi hi' => h (Fin.ext (((mem_chunkSet s k i).mp hi).2.symm.trans ((mem_chunkSet s k' i).mp hi').2))
theorem all_slots : Finset.univ.biUnion slotSet = Finset.univ := by
  ext i
  simp only [Finset.mem_biUnion, Finset.mem_univ, true_and, mem_slotSet, iff_true]
  exact ⟨i 0, rfl⟩
theorem slots_disjoint : ∀ s ∈ (Finset.univ : Finset (Fin 2)), ∀ s' ∈ (Finset.univ : Finset (Fin 2)), s ≠ s' →
    Disjoint (slotSet s) (slotSet s') := fun s _ s' _ h =>
  Finset.disjoint_left.mpr fun i hi hi' => h (Fin.ext (((mem_slotSet s i).mp hi).symm.trans ((mem_slotSet s' i).mp hi')))

/-- Slot `s` held whole at `f`. -/
abbrev slotF (s : Fin 2) (f : Buf (Elt F) ((c : Thread nD τ).loc cc0_scratch1)) : sProp 𝕄 :=
  (slotM s).view.loc (c : Thread nD τ) ↦[(slotM s).view.set]{fullShare} f
omit [FloatOps F] in
theorem slot_four (s : Fin 2) (f : Buf (Elt F) ((c : Thread nD τ).loc cc0_scratch1)) :
    slotF (F := F) c s f = four fun k => slotP c s k f := by
  have h : (slotF (F := F) c s f : sProp 𝕄) = ((c : Thread nD τ).loc cc0_scratch1) ↦[Finset.univ.biUnion (chunkSet s)]{fullShare} f := by
    unfold slotF; rw [slot_set, slot_chunks]; rfl
  rw [h, pointsTo_biUnion (ℓ := (c : Thread nD τ).loc cc0_scratch1) Finset.univ (chunkSet s) (chunks_disjoint s), ← bigSep_four]
  congr 1; funext k
  unfold slotP; rw [chunk_set]; rfl
omit [FloatOps F] in
theorem whole_slots (f : Buf (Elt F) ((c : Thread nD τ).loc cc0_scratch1)) :
    (((c : Thread nD τ).loc cc0_scratch1) ↦{fullShare} f : sProp 𝕄) = iprop(slotF c 0 f ∗ slotF c 1 f) := by
  have h : (((c : Thread nD τ).loc cc0_scratch1) ↦{fullShare} f : sProp 𝕄)
      = ((c : Thread nD τ).loc cc0_scratch1) ↦[Finset.univ.biUnion slotSet]{fullShare} f := by rw [all_slots]
  rw [h, pointsTo_biUnion (ℓ := (c : Thread nD τ).loc cc0_scratch1) Finset.univ slotSet slots_disjoint, Ring.bigSep_fin2]
  unfold slotF; rw [slot_set, slot_set]; rfl
/-- Slots held at two contents join to a scratch held at some contents. -/
theorem slots_join (f g : Buf (Elt F) ((c : Thread nD τ).loc cc0_scratch1)) :
    iprop(slotF (F := F) c 0 f ∗ slotF c 1 g) ⊢ (iprop(∃ h : Buf (Elt F) ((c : Thread nD τ).loc cc0_scratch1), ((c : Thread nD τ).loc cc0_scratch1) ↦{fullShare} h) : sProp 𝕄) := by
  have e0 : slotF (F := F) c 0 f = slotF c 0 (fun i : S2x2048x2048.Idx => if (i 0).val = 0 then f i else g i) :=
    pointsTo_congr fun i hi => by
      have hi' := (mem_slotSet 0 i).mp (by rw [← slot_set]; exact hi)
      exact (if_pos hi').symm
  have e1 : slotF (F := F) c 1 g = slotF c 1 (fun i : S2x2048x2048.Idx => if (i 0).val = 0 then f i else g i) :=
    pointsTo_congr fun i hi => by
      have hi' := (mem_slotSet 1 i).mp (by rw [← slot_set]; exact hi)
      exact (if_neg (by rw [hi']; decide)).symm
  rw [e0, e1, ← whole_slots]
  iintro H; iexists _; iexact H

/-- Four chunks at block `b` are the slot at it. -/
theorem slot_of_fill (s : Fin 2) (b : Fin 4) :
    iprop(slotP (F := F) c s 0 (fill c W b) ∗ slotP c s 1 (fill c W b) ∗ slotP c s 2 (fill c W b) ∗ slotP c s 3 (fill c W b)) ⊢ slotF c s (fill c W b) := by
  rw [slot_four]
/-- Four chunks copies of block `b` have landed in are the slot at it. -/
theorem slot_of_landed (s : Fin 2) (b : Fin 4) (f : Buf (Elt F) ((c : Thread nD τ).loc cc0_scratch1)) :
    iprop(slotP (F := F) c s 0 (landed c W s 0 b f) ∗ slotP c s 1 (landed c W s 1 b f) ∗ slotP c s 2 (landed c W s 2 b f)
      ∗ slotP c s 3 (landed c W s 3 b f)) ⊢ slotF c s (fill c W b) := by
  have e : ∀ k : Fin 4, slotP (F := F) c s k (landed c W s k b f) ⊢ slotP c s k (fill c W b) := fun k => landed_fill c W s k b f
  exact (BIClass.sep_mono (e 0) (BIClass.sep_mono (e 1) (BIClass.sep_mono (e 2) (e 3)))).trans (slot_of_fill c W s b)

/-- A read copy whose chunk has come back is whole again. -/
theorem whole_of (s : Fin 2) (k : Fin 4) (b : Fin 4) : iprop(srcP (F := F) c W s k b ∗ restP c W s k b) ⊢ wholeP c W s k := (src_split c W s k b).2

/-! ## The operand is its eight read copies -/

omit [FloatOps F] in
theorem halves (q : PosShare TreeShare) :
    (((c : Thread nD τ).loc main_arg1) ↦[Finset.univ]{q} W : sProp 𝕄)
      = iprop((((c : Thread nD τ).loc main_arg1) ↦[Finset.univ]{q.left} W) ∗ ((c : Thread nD τ).loc main_arg1) ↦[Finset.univ]{q.right} W) :=
  BI.equiv_iff.mp ⟨(pointsTo_share (PosShare.mem_left_op_right q)).1, (pointsTo_share (PosShare.mem_left_op_right q)).2⟩
omit [FloatOps F] in
theorem operand_copies :
    (((c : Thread nD τ).loc main_arg1) ↦{fullShare} W : sProp 𝕄) ⊣⊢ iprop(four (wholeP c W 0) ∗ four (wholeP c W 1)) := by
  have h : ∀ q : PosShare TreeShare, (((c : Thread nD τ).loc main_arg1) ↦[Finset.univ]{q} W : sProp 𝕄)
      ⊣⊢ four fun k => ((c : Thread nD τ).loc main_arg1) ↦[Finset.univ]{quarter q k} W := fun q => by
    rw [halves c W q, halves c W q.left, halves c W q.right]
    exact sep_assoc
  rw [show (((c : Thread nD τ).loc main_arg1) ↦{fullShare} W : sProp 𝕄) = ((c : Thread nD τ).loc main_arg1) ↦[Finset.univ]{fullShare} W from rfl, halves]
  exact sep_congr (h _) (h _)

/-! ## The states of a slot -/

/-- Free: the slot at some contents, its semaphores at zero, its read copies home. -/
def free (s : Fin 2) : sProp 𝕄 :=
  iprop(∃ f : Buf (Elt F) ((c : Thread nD τ).loc cc0_scratch1), (four fun k => slotP c s k f) ∗ four (cellP c s) ∗ four (wholeP c W s))
/-- Block `b` in flight into it. -/
def fly (s : Fin 2) (b : Fin 4) : sProp 𝕄 :=
  iprop((four fun k => flightP c W s k b (fill c W b)) ∗ four fun k => restP c W s k b)
/-- Block `b` landed in it. -/
def kept (s : Fin 2) (b : Fin 4) : sProp 𝕄 :=
  iprop(slotF c s (fill c W b) ∗ four (cellP c s) ∗ four (wholeP c W s))
omit [FloatOps F] in
theorem free_of_kept (s : Fin 2) (b : Fin 4) : kept (F := F) c W s b ⊢ free c W s := by
  unfold kept free; rw [slot_four]
  iintro ⟨H, Hc, Hw⟩
  iexists fill c W b
  isplitl [H]; · iexact H
  isplitl [Hc]; · iexact Hc
  iexact Hw
end Pieces

end Cert.KernelIdeal.Gcn

end
-- ==== Proof.KernelIdeal.Runs.lean ====
/-
What the runs of the body share: the operand windows a point holds, the block a slot gives, and how a whole buffer is
read and written.
-/
module

public import proofs.«01_k».proof.Proof.KernelIdeal.Ring
public import Idealize.ShloMosaic.Lib.VecWindow

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The twelve operand windows, whole, at their values. -/
def ins (c : Dev nD)
    (arg2 : Memref sig .tc .vmem S1x2048x64 .f32)
    (arg3 : Memref sig .tc .vmem S1x2048x1 .f32)
    (arg4 : Memref sig .tc .vmem S64x64 .f32)
    (arg5 : Memref sig .tc .vmem S1x64 .f32)
    (arg6 : Memref sig .tc .vmem S64x64 .f32)
    (arg7 : Memref sig .tc .vmem S1x64 .f32)
    (arg8 : Memref sig .tc .vmem S64x64 .f32)
    (arg9 : Memref sig .tc .vmem S1x64 .f32)
    (arg10 : Memref sig .tc .vmem S64x64 .f32)
    (arg11 : Memref sig .tc .vmem S1x64 .f32)
    (arg12 : Memref sig .tc .vmem S64x64 .f32)
    (arg13 : Memref sig .tc .vmem S1x64 .f32)
    (x0 : Vec F S1x2048x64 .f32) (x1 : Vec F S1x2048x1 .f32) (x2 : Vec F S64x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11)

/-- Block `b` of the adjacency operand. -/
def blk (A : S4x2048x2048.Idx → Elt F .f32) (b : Fin 4) : Vec F S1x2048x2048 .f32 :=
  fun i => A (Fin.cons (α := fun a => S4x2048x2048.Coord a) b (fun a => i a.succ))

section Whole
variable (c : Dev nD) {sh : Shape} {e : EltTy} (m : Memref sig (c : Thread nD τ).2.kind .vmem sh e)

/-- A whole memref owned at a value is held at the contents that read it. -/
theorem owns_as (h : m.IsWhole) (x : sh.Idx → Elt F e) :
    (owns (c : Thread nD τ) m fullShare x : sProp 𝕄) = m.view.loc (c : Thread nD τ) ↦[m.view.set]{fullShare} h.unread x := by
  have h1 : (owns (c : Thread nD τ) m fullShare x : sProp 𝕄) ⊢ m.view.loc (c : Thread nD τ) ↦[m.view.set]{fullShare} h.unread x := by
    unfold owns
    iintro ⟨%f, %hf, H⟩
    obtain rfl := h.eq_unread hf
    iexact H
  have h2 : (m.view.loc (c : Thread nD τ) ↦[m.view.set]{fullShare} h.unread x : sProp 𝕄) ⊢ owns (c : Thread nD τ) m fullShare x := by
    unfold owns
    iintro H
    iexists _; isplitr; · ipureintro; exact h.read_unread x
    iexact H
  exact BI.equiv_iff.mp ⟨h1, h2⟩
/-- A store of its whole box leaves the payload. -/
theorem owns_stored {off : Fin sh.rank → ℕ} (inb : ∀ a, off a + sh.size a ≤ sh.size a) (f : Buf (Elt F) (m.view.loc (c : Thread nD τ)))
    (w : (Rect.unit off sh.size inb).shape.Idx → Elt F e) (L : List (View.Piece (Elt F) sh e)) :
    (m.view.loc (c : Thread nD τ) ↦[m.view.set]{fullShare} m.view.writes (Elt F) f (⟨Rect.unit off sh.size inb, w⟩ :: L) : sProp 𝕄)
      ⊢ owns (c : Thread nD τ) m fullShare w := by
  unfold owns
  iintro H
  iexists _; isplitr; · ipureintro; exact View.read_writes_full m.view f inb w L
  iexact H
/-- The same, the payload named. -/
theorem stored_as (h : m.IsWhole) {off : Fin sh.rank → ℕ} (inb : ∀ a, off a + sh.size a ≤ sh.size a) (f : Buf (Elt F) (m.view.loc (c : Thread nD τ)))
    {w x : sh.Idx → Elt F e} (L : List (View.Piece (Elt F) sh e)) (hw : w = x) :
    (m.view.loc (c : Thread nD τ) ↦[m.view.set]{fullShare} m.view.writes (Elt F) f (⟨Rect.unit off sh.size inb, w⟩ :: L) : sProp 𝕄)
      ⊢ m.view.loc (c : Thread nD τ) ↦[m.view.set]{fullShare} h.unread x := by
  subst hw
  rw [← owns_as c m h]; exact owns_stored c m inb f w L
end Whole

section Whole2
variable {sh : Shape} {e : EltTy} {κ : Kind} {sp : Space} (m : Memref sig κ sp sh e)

/-- A load of a whole memref's whole box reads its value. -/
theorem load_unread (h : m.IsWhole) {off : Fin sh.rank → ℕ} (inb : ∀ a, off a + sh.size a ≤ sh.size a) (x : sh.Idx → Elt F e) :
    m.view.readAt (Elt F) (Rect.unit off sh.size inb).toLoadRect (h.unread x) = x := by
  rw [View.readAt_full]; exact h.read_unread x

/-- A load of its whole box after a store of it reads the payload. -/
theorem load_stored {off off' : Fin sh.rank → ℕ} (inb : ∀ a, off a + sh.size a ≤ sh.size a) (inb' : ∀ a, off' a + sh.size a ≤ sh.size a)
    {w x : sh.Idx → Elt F e} (L : List (View.Piece (Elt F) sh e)) (h : w = x) :
    m.view.readCov (⟨Rect.unit off' sh.size inb', w⟩ :: L) (Rect.unit off sh.size inb).toLoadRect = x :=
  (View.readCov_full m.view inb inb' w L).trans h
end Whole2

/-- The block load reads the block the slot was filled with. -/
theorem blk_load (c : Dev nD) (t : Fin grid0.N) (A : Buf (Elt F) ((c : Thread nD τ).loc main_arg1)) (b : Fin 4)
    (inb : ∀ a, k0_off25 (grid0.coords t) a + S1x2048x2048.size a ≤ S2x2048x2048.size a) :
    ringM.view.readAt (Elt F) (Rect.unit (s := S2x2048x2048) (k0_off25 (grid0.coords t)) S1x2048x2048.size inb).toLoadRect (fill c A b) = blk A b := by
  have key : ∀ (off : Fin 3 → ℕ) (h : off = ![(sl (t.val / 2)).val, 0, 0]) (inb : ∀ a, off a + S1x2048x2048.size a ≤ S2x2048x2048.size a),
      ringM.view.readAt (Elt F) (Rect.unit (s := S2x2048x2048) off S1x2048x2048.size inb).toLoadRect (fill c A b) = blk A b := fun off h inb => by
    subst h
    refine funext fun i => congrArg A (funext fun a => Fin.ext ?_)
    fin_cases a
    · rfl
    · show 0 + 1 * (i 1).val = (i 1).val
      omega
    · show 0 + 1 * (i 2).val = (i 2).val
      omega
  exact key _ (load_off t) inb

end Cert.KernelIdeal.Gcn

end
-- ==== Proof.KernelIdeal.RunA.lean ====
/-
The first point: it starts the first two blocks, combines the weights, waits for the first block and runs the first layer.
-/
module

public import proofs.«01_k».proof.Proof.KernelIdeal.Runs

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (t : Fin cfg0.N)
  (arg2 : Memref sig .tc .vmem S1x2048x64 .f32) (harg2 : arg2.IsWhole)
  (arg3 : Memref sig .tc .vmem S1x2048x1 .f32) (harg3 : arg3.IsWhole)
  (arg4 : Memref sig .tc .vmem S64x64 .f32) (harg4 : arg4.IsWhole)
  (arg5 : Memref sig .tc .vmem S1x64 .f32) (harg5 : arg5.IsWhole)
  (arg6 : Memref sig .tc .vmem S64x64 .f32) (harg6 : arg6.IsWhole)
  (arg7 : Memref sig .tc .vmem S1x64 .f32) (harg7 : arg7.IsWhole)
  (arg8 : Memref sig .tc .vmem S64x64 .f32) (harg8 : arg8.IsWhole)
  (arg9 : Memref sig .tc .vmem S1x64 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S1x2048x64 .f32) (harg14 : arg14.IsWhole)
  (arg15 : Memref sig .tc .vmem S2048x64 .f32) (harg15 : arg15.IsWhole)
  (arg18 : Memref sig .tc .vmem S64x64 .f32) (harg18 : arg18.IsWhole)
  (arg19 : Memref sig .tc .vmem S1x64 .f32) (harg19 : arg19.IsWhole)
  (arg20 : Memref sig .tc .vmem S64x64 .f32) (harg20 : arg20.IsWhole)
  (arg21 : Memref sig .tc .vmem S1x64 .f32) (harg21 : arg21.IsWhole)
variable (x0 : Vec F S1x2048x64 .f32) (x1 : Vec F S1x2048x1 .f32) (x2 : Vec F S64x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32)
  (A : Buf (Elt F) ((c : Thread nD τ).loc main_arg1))

set_option maxHeartbeats 1000000 in
theorem run_first (ht : t.val = 0) : ∀ (K : PUnit → sProp 𝕄) (Wt : Waits sig Unit),
    iprop(ins c arg2 arg3 arg4 arg5 arg6 arg7 arg8 arg9 arg10 arg11 arg12 arg13 x0 x1 x2 x3 x4 x5 x6 x7 x8 x9 x10 x11 ∗ (∃ d, owns (c : Thread nD τ) arg15 fullShare d) ∗ (∃ d, owns (c : Thread nD τ) arg18 fullShare d)
        ∗ (∃ d, owns (c : Thread nD τ) arg19 fullShare d) ∗ (∃ d, owns (c : Thread nD τ) arg20 fullShare d) ∗ (∃ d, owns (c : Thread nD τ) arg21 fullShare d)
        ∗ free c A (sl (t.val / 2)) ∗ free c A (sl (t.val / 2 + 1)) ∗ owes (c : Thread nD τ) 0 Wt
        ∗ (iprop(ins c arg2 arg3 arg4 arg5 arg6 arg7 arg8 arg9 arg10 arg11 arg12 arg13 x0 x1 x2 x3 x4 x5 x6 x7 x8 x9 x10 x11
            ∗ owns (c : Thread nD τ) arg15 fullShare (k0_pay2 (layerBit (grid0.coords t)) x5 x9 (blk A (bk (t.val / 2))) (k0_pay9 x0 (k0_pay5 x2 x4) (k0_pay6 x3 x4)) (k0_pay7 x6 x8) (k0_pay8 x7 x8))
            ∗ owns (c : Thread nD τ) arg18 fullShare (k0_pay5 x2 x4) ∗ owns (c : Thread nD τ) arg19 fullShare (k0_pay6 x3 x4)
            ∗ owns (c : Thread nD τ) arg20 fullShare (k0_pay7 x6 x8) ∗ owns (c : Thread nD τ) arg21 fullShare (k0_pay8 x7 x8)
            ∗ kept c A (sl (t.val / 2)) (bk (t.val / 2)) ∗ fly c A (sl (t.val / 2 + 1)) (bk (t.val / 2 + 1)) ∗ (∃ Wt', owes (c : Thread nD τ) 0 Wt')) -∗ K ⟨⟩))
      ⊢ wp frame (wpE (defs₀ (F := F)) Variants.none c none) Set.univ (cc0__decoder_kernel (grid0.coords t) (Memref.whole main_arg1) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 ringM (Memref.isWhole_whole _) cc0_scratch2 arg18 harg18 arg19 harg19 arg20 harg20 arg21 harg21) K := by
  intro K Wt
  have hc0 : isFirst (grid0.coords t) := (isFirst_iff t).mpr ht
  have hc1 : starts (grid0.coords t) := (starts_iff t).mpr (by omega)
  have hc2 : waits (grid0.coords t) := (waits_iff t).mpr (by omega)
  have hc3 : layerOne (grid0.coords t) := (layerOne_iff t).mpr (by omega)
  have hc4 : ¬prepares (grid0.coords t) := fun h => by have := (prepares_iff t).mp h; omega
  have hc5 : ¬layerTwo (grid0.coords t) := fun h => by have := (layerTwo_iff t).mp h; omega
  haveI : Fact (isFirst (grid0.coords t)) := ⟨hc0⟩
  haveI : Fact (starts (grid0.coords t)) := ⟨hc1⟩
  haveI : Fact (waits (grid0.coords t)) := ⟨hc2⟩
  haveI : Fact (layerOne (grid0.coords t)) := ⟨hc3⟩
  haveI : Fact (¬prepares (grid0.coords t)) := ⟨hc4⟩
  haveI : Fact (¬layerTwo (grid0.coords t)) := ⟨hc5⟩
  simp only [cc0__decoder_kernel_eq_skeleton]; unfold cc0__decoder_kernel_skel
  simp only [k0_part3_eq_skeleton]; unfold k0_part3_skel
  simp only [k0_part2_eq_skeleton, k0_part1_eq_skeleton]; unfold k0_part2_skel k0_part1_skel
  have hcanonk0 := chunk_first_0 t hc0
  have hcanons0 := src_first_0 t hc0
  have hcanonq0 := cell_first_0 t hc0
  have hcanona0 := chunk_next_0 t hc1
  have hcanonb0 := srcC_next_0 t hc1
  have hcanonc0 := cell_next_0 t hc1
  have hcanond0 := chunk_own_0 t hc2
  have hcanone0 := srcC_own_0 t hc2
  have hcanonf0 := cell_own_0 t hc2
  have hcanonk1 := chunk_first_1 t hc0
  have hcanons1 := src_first_1 t hc0
  have hcanonq1 := cell_first_1 t hc0
  have hcanona1 := chunk_next_1 t hc1
  have hcanonb1 := srcC_next_1 t hc1
  have hcanonc1 := cell_next_1 t hc1
  have hcanond1 := chunk_own_1 t hc2
  have hcanone1 := srcC_own_1 t hc2
  have hcanonf1 := cell_own_1 t hc2
  have hcanonk2 := chunk_first_2 t hc0
  have hcanons2 := src_first_2 t hc0
  have hcanonq2 := cell_first_2 t hc0
  have hcanona2 := chunk_next_2 t hc1
  have hcanonb2 := srcC_next_2 t hc1
  have hcanonc2 := cell_next_2 t hc1
  have hcanond2 := chunk_own_2 t hc2
  have hcanone2 := srcC_own_2 t hc2
  have hcanonf2 := cell_own_2 t hc2
  have hcanonk3 := chunk_first_3 t hc0
  have hcanons3 := src_first_3 t hc0
  have hcanonq3 := cell_first_3 t hc0
  have hcanona3 := chunk_next_3 t hc1
  have hcanonb3 := srcC_next_3 t hc1
  have hcanonc3 := cell_next_3 t hc1
  have hcanond3 := chunk_own_3 t hc2
  have hcanone3 := srcC_own_3 t hc2
  have hcanonf3 := cell_own_3 t hc2
  unfold ins free
  simp only [four, owns_as c arg2 harg2, owns_as c arg3 harg3, owns_as c arg4 harg4, owns_as c arg5 harg5, owns_as c arg6 harg6, owns_as c arg7 harg7, owns_as c arg8 harg8, owns_as c arg9 harg9, owns_as c arg10 harg10, owns_as c arg11 harg11, owns_as c arg12 harg12, owns_as c arg13 harg13, owns_as c arg15 harg15, owns_as c arg18 harg18, owns_as c arg19 harg19, owns_as c arg20 harg20, owns_as c arg21 harg21]
  iintro ⟨⟨H2, H3, H4, H5, H6, H7, H8, H9, H10, H11, H12, H13⟩, ⟨%d15, H15⟩, ⟨%d18, H18⟩, ⟨%d19, H19⟩, ⟨%d20, H20⟩, ⟨%d21, H21⟩, ⟨%f, ⟨P0, P1, P2, P3⟩, ⟨C0, C1, C2, C3⟩, W0, W1, W2, W3⟩, ⟨%g, ⟨Q0, Q1, Q2, Q3⟩, ⟨D0, D1, D2, D3⟩, V0, V1, V2, V3⟩, HW, Hk⟩
  ihave T0 := (src_split c A (sl (t.val / 2)) 0 (bk (t.val / 2))).1 $$ W0
  icases T0 with ⟨S0, R0⟩
  ihave T0 := (src_split c A (sl (t.val / 2 + 1)) 0 (bk (t.val / 2 + 1))).1 $$ V0
  icases T0 with ⟨U0, X0⟩
  ihave T1 := (src_split c A (sl (t.val / 2)) 1 (bk (t.val / 2))).1 $$ W1
  icases T1 with ⟨S1, R1⟩
  ihave T1 := (src_split c A (sl (t.val / 2 + 1)) 1 (bk (t.val / 2 + 1))).1 $$ V1
  icases T1 with ⟨U1, X1⟩
  ihave T2 := (src_split c A (sl (t.val / 2)) 2 (bk (t.val / 2))).1 $$ W2
  icases T2 with ⟨S2, R2⟩
  ihave T2 := (src_split c A (sl (t.val / 2 + 1)) 2 (bk (t.val / 2 + 1))).1 $$ V2
  icases T2 with ⟨U2, X2⟩
  ihave T3 := (src_split c A (sl (t.val / 2)) 3 (bk (t.val / 2))).1 $$ W3
  icases T3 with ⟨S3, R3⟩
  ihave T3 := (src_split c A (sl (t.val / 2 + 1)) 3 (bk (t.val / 2 + 1))).1 $$ V3
  icases T3 with ⟨U3, X3⟩
  unfold srcP
  sl_exec (disch := first | sl_exact hc0 | sl_exact hc1 | sl_exact hc2 | sl_exact hc3 | sl_exact hc4 | sl_exact hc5)
  ihave P := (slot_of_landed c A (sl (t.val / 2)) (bk (t.val / 2)) f) $$ [P0 P1 P2 P3]
  · isplitl [P0]; · iexact P0
    isplitl [P1]; · iexact P1
    isplitl [P2]; · iexact P2
    iexact P3
  unfold slotF
  sl_exec (disch := first | sl_exact hc0 | sl_exact hc1 | sl_exact hc2 | sl_exact hc3 | sl_exact hc4 | sl_exact hc5)
  sl_step
  unfold run_first.sl.H18_1 run_first.sl.H19_1 run_first.sl.dma0_4 run_first.sl.dma0_5 run_first.sl.dma0_6 run_first.sl.dma0_7
  iapply Hk
  iframe H2 H3 H4 H5 H6 H7 H8 H9 H10 H11 H12 H13
  isplitl [H15]
  · iapply (stored_as c arg15 harg15 _ _ _ ?_) $$ H15
    congr 1
    · exact load_unread _ harg7 _ _
    · exact load_unread _ harg11 _ _
    · exact blk_load c t A _ _
    · refine load_stored _ _ _ _ ?_
      congr 1
      · exact load_unread _ harg2 _ _
      · refine load_stored _ _ _ _ ?_
        exact congrArg₂ k0_pay5 (load_unread _ harg4 _ _) (load_unread _ harg6 _ _)
      · refine load_stored _ _ _ _ ?_
        exact congrArg₂ k0_pay6 (load_unread _ harg5 _ _) (load_unread _ harg6 _ _)
    · refine load_stored _ _ _ _ ?_
      exact congrArg₂ k0_pay7 (load_unread _ harg8 _ _) (load_unread _ harg10 _ _)
    · refine load_stored _ _ _ _ ?_
      exact congrArg₂ k0_pay8 (load_unread _ harg9 _ _) (load_unread _ harg10 _ _)
  isplitl [H18]
  · iapply (stored_as c arg18 harg18 _ _ _ (congrArg₂ k0_pay5 (load_unread _ harg4 _ _) (load_unread _ harg6 _ _))) $$ H18
  isplitl [H19]
  · iapply (stored_as c arg19 harg19 _ _ _ (congrArg₂ k0_pay6 (load_unread _ harg5 _ _) (load_unread _ harg6 _ _))) $$ H19
  isplitl [H20]
  · iapply (stored_as c arg20 harg20 _ _ _ (congrArg₂ k0_pay7 (load_unread _ harg8 _ _) (load_unread _ harg10 _ _))) $$ H20
  isplitl [H21]
  · iapply (stored_as c arg21 harg21 _ _ _ (congrArg₂ k0_pay8 (load_unread _ harg9 _ _) (load_unread _ harg10 _ _))) $$ H21
  ihave W0 := (whole_of c A (sl (t.val / 2)) 0 (bk (t.val / 2))) $$ [S0 R0]
  · isplitl [S0]; · iexact S0
    iexact R0
  ihave W1 := (whole_of c A (sl (t.val / 2)) 1 (bk (t.val / 2))) $$ [S1 R1]
  · isplitl [S1]; · iexact S1
    iexact R1
  ihave W2 := (whole_of c A (sl (t.val / 2)) 2 (bk (t.val / 2))) $$ [S2 R2]
  · isplitl [S2]; · iexact S2
    iexact R2
  ihave W3 := (whole_of c A (sl (t.val / 2)) 3 (bk (t.val / 2))) $$ [S3 R3]
  · isplitl [S3]; · iexact S3
    iexact R3
  isplitl [P C0 C1 C2 C3 W0 W1 W2 W3]
  · unfold kept four
    iframe P C0 C1 C2 C3 W0 W1 W2 W3
  isplitl [D0 D1 D2 D3 X0 X1 X2 X3]
  · unfold fly four
    iframe X0 X1 X2 X3
    isplitl [D0]; · iapply (flight_fill c A (sl (t.val / 2 + 1)) 0 (bk (t.val / 2 + 1)) g) $$ D0
    isplitl [D1]; · iapply (flight_fill c A (sl (t.val / 2 + 1)) 1 (bk (t.val / 2 + 1)) g) $$ D1
    isplitl [D2]; · iapply (flight_fill c A (sl (t.val / 2 + 1)) 2 (bk (t.val / 2 + 1)) g) $$ D2
    iapply (flight_fill c A (sl (t.val / 2 + 1)) 3 (bk (t.val / 2 + 1)) g) $$ D3
  iexists _; iexact HW
end

end Cert.KernelIdeal.Gcn

end
-- ==== Proof.KernelIdeal.RunOne.lean ====
/-
The first-layer points after the first: the element's block, started two points before, is waited for, and the next block
is started if there is one.
-/
module

public import proofs.«01_k».proof.Proof.KernelIdeal.RunA

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (t : Fin cfg0.N)
  (arg2 : Memref sig .tc .vmem S1x2048x64 .f32) (harg2 : arg2.IsWhole)
  (arg3 : Memref sig .tc .vmem S1x2048x1 .f32) (harg3 : arg3.IsWhole)
  (arg4 : Memref sig .tc .vmem S64x64 .f32) (harg4 : arg4.IsWhole)
  (arg5 : Memref sig .tc .vmem S1x64 .f32) (harg5 : arg5.IsWhole)
  (arg6 : Memref sig .tc .vmem S64x64 .f32) (harg6 : arg6.IsWhole)
  (arg7 : Memref sig .tc .vmem S1x64 .f32) (harg7 : arg7.IsWhole)
  (arg8 : Memref sig .tc .vmem S64x64 .f32) (harg8 : arg8.IsWhole)
  (arg9 : Memref sig .tc .vmem S1x64 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S1x2048x64 .f32) (harg14 : arg14.IsWhole)
  (arg15 : Memref sig .tc .vmem S2048x64 .f32) (harg15 : arg15.IsWhole)
  (arg18 : Memref sig .tc .vmem S64x64 .f32) (harg18 : arg18.IsWhole)
  (arg19 : Memref sig .tc .vmem S1x64 .f32) (harg19 : arg19.IsWhole)
  (arg20 : Memref sig .tc .vmem S64x64 .f32) (harg20 : arg20.IsWhole)
  (arg21 : Memref sig .tc .vmem S1x64 .f32) (harg21 : arg21.IsWhole)
variable (x0 : Vec F S1x2048x64 .f32) (x1 : Vec F S1x2048x1 .f32) (x2 : Vec F S64x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32)
  (A : Buf (Elt F) ((c : Thread nD τ).loc main_arg1))

set_option maxHeartbeats 1000000 in
/-- A first-layer point that starts the next block. -/
theorem run_one (y : Vec F S2048x64 .f32) (w20 : Vec F S64x64 .f32) (w21 : Vec F S1x64 .f32) (ht : t.val % 2 = 0 ∧ 0 < t.val ∧ t.val < 6) : ∀ (K : PUnit → sProp 𝕄) (Wt : Waits sig Unit),
    iprop(ins c arg2 arg3 arg4 arg5 arg6 arg7 arg8 arg9 arg10 arg11 arg12 arg13 x0 x1 x2 x3 x4 x5 x6 x7 x8 x9 x10 x11 ∗ owns (c : Thread nD τ) arg15 fullShare y ∗ owns (c : Thread nD τ) arg20 fullShare w20 ∗ owns (c : Thread nD τ) arg21 fullShare w21 ∗ fly c A (sl (t.val / 2)) (bk (t.val / 2)) ∗ free c A (sl (t.val / 2 + 1)) ∗ owes (c : Thread nD τ) 0 Wt
        ∗ (iprop(ins c arg2 arg3 arg4 arg5 arg6 arg7 arg8 arg9 arg10 arg11 arg12 arg13 x0 x1 x2 x3 x4 x5 x6 x7 x8 x9 x10 x11 ∗ owns (c : Thread nD τ) arg15 fullShare (k0_pay2 (layerBit (grid0.coords t)) x5 x9 (blk A (bk (t.val / 2))) y w20 w21) ∗ owns (c : Thread nD τ) arg20 fullShare w20 ∗ owns (c : Thread nD τ) arg21 fullShare w21 ∗ kept c A (sl (t.val / 2)) (bk (t.val / 2)) ∗ fly c A (sl (t.val / 2 + 1)) (bk (t.val / 2 + 1)) ∗ (∃ Wt', owes (c : Thread nD τ) 0 Wt')) -∗ K ⟨⟩))
      ⊢ wp frame (wpE (defs₀ (F := F)) Variants.none c none) Set.univ (cc0__decoder_kernel (grid0.coords t) (Memref.whole main_arg1) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 ringM (Memref.isWhole_whole _) cc0_scratch2 arg18 harg18 arg19 harg19 arg20 harg20 arg21 harg21) K := by
  intro K Wt
  have hc0 : ¬isFirst (grid0.coords t) := fun h => by have := (isFirst_iff t).mp h; omega
  have hc1 : starts (grid0.coords t) := (starts_iff t).mpr (by omega)
  have hc2 : waits (grid0.coords t) := (waits_iff t).mpr (by omega)
  have hc3 : layerOne (grid0.coords t) := (layerOne_iff t).mpr (by omega)
  have hc4 : ¬prepares (grid0.coords t) := fun h => by have := (prepares_iff t).mp h; omega
  have hc5 : ¬layerTwo (grid0.coords t) := fun h => by have := (layerTwo_iff t).mp h; omega
  haveI : Fact (¬isFirst (grid0.coords t)) := ⟨hc0⟩
  haveI : Fact (starts (grid0.coords t)) := ⟨hc1⟩
  haveI : Fact (waits (grid0.coords t)) := ⟨hc2⟩
  haveI : Fact (layerOne (grid0.coords t)) := ⟨hc3⟩
  haveI : Fact (¬prepares (grid0.coords t)) := ⟨hc4⟩
  haveI : Fact (¬layerTwo (grid0.coords t)) := ⟨hc5⟩
  simp only [cc0__decoder_kernel_eq_skeleton]; unfold cc0__decoder_kernel_skel
  simp only [k0_part3_eq_skeleton]; unfold k0_part3_skel
  have hcanona0 := chunk_next_0 t hc1; have hcanonb0 := srcC_next_0 t hc1; have hcanonc0 := cell_next_0 t hc1
  have hcanond0 := chunk_own_0 t hc2; have hcanone0 := srcC_own_0 t hc2; have hcanonf0 := cell_own_0 t hc2
  have hcanona1 := chunk_next_1 t hc1; have hcanonb1 := srcC_next_1 t hc1; have hcanonc1 := cell_next_1 t hc1
  have hcanond1 := chunk_own_1 t hc2; have hcanone1 := srcC_own_1 t hc2; have hcanonf1 := cell_own_1 t hc2
  have hcanona2 := chunk_next_2 t hc1; have hcanonb2 := srcC_next_2 t hc1; have hcanonc2 := cell_next_2 t hc1
  have hcanond2 := chunk_own_2 t hc2; have hcanone2 := srcC_own_2 t hc2; have hcanonf2 := cell_own_2 t hc2
  have hcanona3 := chunk_next_3 t hc1; have hcanonb3 := srcC_next_3 t hc1; have hcanonc3 := cell_next_3 t hc1
  have hcanond3 := chunk_own_3 t hc2; have hcanone3 := srcC_own_3 t hc2; have hcanonf3 := cell_own_3 t hc2
  unfold ins fly free
  simp only [four, owns_as c arg2 harg2, owns_as c arg3 harg3, owns_as c arg4 harg4, owns_as c arg5 harg5, owns_as c arg6 harg6, owns_as c arg7 harg7, owns_as c arg8 harg8, owns_as c arg9 harg9, owns_as c arg10 harg10, owns_as c arg11 harg11, owns_as c arg12 harg12, owns_as c arg13 harg13, owns_as c arg15 harg15, owns_as c arg20 harg20, owns_as c arg21 harg21]
  iintro ⟨⟨H2, H3, H4, H5, H6, H7, H8, H9, H10, H11, H12, H13⟩, H15, H20, H21, ⟨⟨C0, C1, C2, C3⟩, R0, R1, R2, R3⟩, ⟨%g, ⟨Q0, Q1, Q2, Q3⟩, ⟨D0, D1, D2, D3⟩, V0, V1, V2, V3⟩, HW, Hk⟩
  ihave T0 := (src_split c A (sl (t.val / 2 + 1)) 0 (bk (t.val / 2 + 1))).1 $$ V0
  icases T0 with ⟨U0, X0⟩
  ihave T1 := (src_split c A (sl (t.val / 2 + 1)) 1 (bk (t.val / 2 + 1))).1 $$ V1
  icases T1 with ⟨U1, X1⟩
  ihave T2 := (src_split c A (sl (t.val / 2 + 1)) 2 (bk (t.val / 2 + 1))).1 $$ V2
  icases T2 with ⟨U2, X2⟩
  ihave T3 := (src_split c A (sl (t.val / 2 + 1)) 3 (bk (t.val / 2 + 1))).1 $$ V3
  icases T3 with ⟨U3, X3⟩
  unfold flightP slotP srcP
  sl_exec (disch := first | sl_exact hc0 | sl_exact hc1 | sl_exact hc2 | sl_exact hc3 | sl_exact hc4 | sl_exact hc5)
  ihave P := (slot_of_fill c A (sl (t.val / 2)) (bk (t.val / 2))) $$ [C0_dst C1_dst C2_dst C3_dst]
  · iframe C0_dst C1_dst C2_dst C3_dst
  unfold slotF
  sl_exec (disch := first | sl_exact hc0 | sl_exact hc1 | sl_exact hc2 | sl_exact hc3 | sl_exact hc4 | sl_exact hc5)
  sl_step
  unfold run_one.sl.dma0 run_one.sl.dma0_1 run_one.sl.dma0_2 run_one.sl.dma0_3
  iapply Hk
  iframe H2 H3 H4 H5 H6 H7 H8 H9 H10 H11 H12 H13
  isplitl [H15]
  · iapply (stored_as c arg15 harg15 _ _ _ ?_) $$ H15
    congr 1
    · exact load_unread _ harg7 _ _
    · exact load_unread _ harg11 _ _
    · exact blk_load c t A _ _
    · exact load_unread _ harg15 _ _
    · exact load_unread _ harg20 _ _
    · exact load_unread _ harg21 _ _
  iframe H20 H21
  ihave W0 := (whole_of c A (sl (t.val / 2)) 0 (bk (t.val / 2))) $$ [C0_src R0]
  · iframe C0_src R0
  ihave W1 := (whole_of c A (sl (t.val / 2)) 1 (bk (t.val / 2))) $$ [C1_src R1]
  · iframe C1_src R1
  ihave W2 := (whole_of c A (sl (t.val / 2)) 2 (bk (t.val / 2))) $$ [C2_src R2]
  · iframe C2_src R2
  ihave W3 := (whole_of c A (sl (t.val / 2)) 3 (bk (t.val / 2))) $$ [C3_src R3]
  · iframe C3_src R3
  isplitl [P C0 C1 C2 C3 W0 W1 W2 W3]
  · unfold kept four
    iframe P C0 C1 C2 C3 W0 W1 W2 W3
  isplitl [D0 D1 D2 D3 X0 X1 X2 X3]
  · iframe X0 X1 X2 X3
    isplitl [D0]; · iapply (flight_fill c A (sl (t.val / 2 + 1)) 0 (bk (t.val / 2 + 1)) g) $$ D0
    isplitl [D1]; · iapply (flight_fill c A (sl (t.val / 2 + 1)) 1 (bk (t.val / 2 + 1)) g) $$ D1
    isplitl [D2]; · iapply (flight_fill c A (sl (t.val / 2 + 1)) 2 (bk (t.val / 2 + 1)) g) $$ D2
    iapply (flight_fill c A (sl (t.val / 2 + 1)) 3 (bk (t.val / 2 + 1)) g) $$ D3
  iexists _; iexact HW

set_option maxHeartbeats 1000000 in
/-- The last first-layer point. -/
theorem run_one_last (y : Vec F S2048x64 .f32) (w20 : Vec F S64x64 .f32) (w21 : Vec F S1x64 .f32) (ht : t.val = 6) : ∀ (K : PUnit → sProp 𝕄) (Wt : Waits sig Unit),
    iprop(ins c arg2 arg3 arg4 arg5 arg6 arg7 arg8 arg9 arg10 arg11 arg12 arg13 x0 x1 x2 x3 x4 x5 x6 x7 x8 x9 x10 x11 ∗ owns (c : Thread nD τ) arg15 fullShare y ∗ owns (c : Thread nD τ) arg20 fullShare w20 ∗ owns (c : Thread nD τ) arg21 fullShare w21 ∗ fly c A (sl (t.val / 2)) (bk (t.val / 2)) ∗ owes (c : Thread nD τ) 0 Wt
        ∗ (iprop(ins c arg2 arg3 arg4 arg5 arg6 arg7 arg8 arg9 arg10 arg11 arg12 arg13 x0 x1 x2 x3 x4 x5 x6 x7 x8 x9 x10 x11 ∗ owns (c : Thread nD τ) arg15 fullShare (k0_pay2 (layerBit (grid0.coords t)) x5 x9 (blk A (bk (t.val / 2))) y w20 w21) ∗ owns (c : Thread nD τ) arg20 fullShare w20 ∗ owns (c : Thread nD τ) arg21 fullShare w21 ∗ kept c A (sl (t.val / 2)) (bk (t.val / 2)) ∗ (∃ Wt', owes (c : Thread nD τ) 0 Wt')) -∗ K ⟨⟩))
      ⊢ wp frame (wpE (defs₀ (F := F)) Variants.none c none) Set.univ (cc0__decoder_kernel (grid0.coords t) (Memref.whole main_arg1) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 ringM (Memref.isWhole_whole _) cc0_scratch2 arg18 harg18 arg19 harg19 arg20 harg20 arg21 harg21) K := by
  intro K Wt
  have hc0 : ¬isFirst (grid0.coords t) := fun h => by have := (isFirst_iff t).mp h; omega
  have hc1 : ¬starts (grid0.coords t) := fun h => by have := (starts_iff t).mp h; omega
  have hc2 : waits (grid0.coords t) := (waits_iff t).mpr (by omega)
  have hc3 : layerOne (grid0.coords t) := (layerOne_iff t).mpr (by omega)
  have hc4 : ¬prepares (grid0.coords t) := fun h => by have := (prepares_iff t).mp h; omega
  have hc5 : ¬layerTwo (grid0.coords t) := fun h => by have := (layerTwo_iff t).mp h; omega
  haveI : Fact (¬isFirst (grid0.coords t)) := ⟨hc0⟩
  haveI : Fact (¬starts (grid0.coords t)) := ⟨hc1⟩
  haveI : Fact (waits (grid0.coords t)) := ⟨hc2⟩
  haveI : Fact (layerOne (grid0.coords t)) := ⟨hc3⟩
  haveI : Fact (¬prepares (grid0.coords t)) := ⟨hc4⟩
  haveI : Fact (¬layerTwo (grid0.coords t)) := ⟨hc5⟩
  simp only [cc0__decoder_kernel_eq_skeleton]; unfold cc0__decoder_kernel_skel
  simp only [k0_part3_eq_skeleton]; unfold k0_part3_skel
  have hcanond0 := chunk_own_0 t hc2; have hcanone0 := srcC_own_0 t hc2; have hcanonf0 := cell_own_0 t hc2
  have hcanond1 := chunk_own_1 t hc2; have hcanone1 := srcC_own_1 t hc2; have hcanonf1 := cell_own_1 t hc2
  have hcanond2 := chunk_own_2 t hc2; have hcanone2 := srcC_own_2 t hc2; have hcanonf2 := cell_own_2 t hc2
  have hcanond3 := chunk_own_3 t hc2; have hcanone3 := srcC_own_3 t hc2; have hcanonf3 := cell_own_3 t hc2
  unfold ins fly
  simp only [four, owns_as c arg2 harg2, owns_as c arg3 harg3, owns_as c arg4 harg4, owns_as c arg5 harg5, owns_as c arg6 harg6, owns_as c arg7 harg7, owns_as c arg8 harg8, owns_as c arg9 harg9, owns_as c arg10 harg10, owns_as c arg11 harg11, owns_as c arg12 harg12, owns_as c arg13 harg13, owns_as c arg15 harg15, owns_as c arg20 harg20, owns_as c arg21 harg21]
  iintro ⟨⟨H2, H3, H4, H5, H6, H7, H8, H9, H10, H11, H12, H13⟩, H15, H20, H21, ⟨⟨C0, C1, C2, C3⟩, R0, R1, R2, R3⟩, HW, Hk⟩
  unfold flightP slotP srcP
  sl_exec (disch := first | sl_exact hc0 | sl_exact hc1 | sl_exact hc2 | sl_exact hc3 | sl_exact hc4 | sl_exact hc5)
  ihave P := (slot_of_fill c A (sl (t.val / 2)) (bk (t.val / 2))) $$ [C0_dst C1_dst C2_dst C3_dst]
  · iframe C0_dst C1_dst C2_dst C3_dst
  unfold slotF
  sl_exec (disch := first | sl_exact hc0 | sl_exact hc1 | sl_exact hc2 | sl_exact hc3 | sl_exact hc4 | sl_exact hc5)
  sl_step
  iapply Hk
  iframe H2 H3 H4 H5 H6 H7 H8 H9 H10 H11 H12 H13
  isplitl [H15]
  · iapply (stored_as c arg15 harg15 _ _ _ ?_) $$ H15
    congr 1
    · exact load_unread _ harg7 _ _
    · exact load_unread _ harg11 _ _
    · exact blk_load c t A _ _
    · exact load_unread _ harg15 _ _
    · exact load_unread _ harg20 _ _
    · exact load_unread _ harg21 _ _
  iframe H20 H21
  ihave W0 := (whole_of c A (sl (t.val / 2)) 0 (bk (t.val / 2))) $$ [C0_src R0]
  · iframe C0_src R0
  ihave W1 := (whole_of c A (sl (t.val / 2)) 1 (bk (t.val / 2))) $$ [C1_src R1]
  · iframe C1_src R1
  ihave W2 := (whole_of c A (sl (t.val / 2)) 2 (bk (t.val / 2))) $$ [C2_src R2]
  · iframe C2_src R2
  ihave W3 := (whole_of c A (sl (t.val / 2)) 3 (bk (t.val / 2))) $$ [C3_src R3]
  · iframe C3_src R3
  isplitl [P C0 C1 C2 C3 W0 W1 W2 W3]
  · unfold kept four
    iframe P C0 C1 C2 C3 W0 W1 W2 W3
  iexists _; iexact HW
end

end Cert.KernelIdeal.Gcn

end
-- ==== Proof.KernelIdeal.RunSecond.lean ====
/-
The second-layer points: no copy is started or waited for; the output block is stored, and the next element's first messages
are prepared if there is one.
-/
module

public import proofs.«01_k».proof.Proof.KernelIdeal.RunOne

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (t : Fin cfg0.N)
  (arg2 : Memref sig .tc .vmem S1x2048x64 .f32) (harg2 : arg2.IsWhole)
  (arg3 : Memref sig .tc .vmem S1x2048x1 .f32) (harg3 : arg3.IsWhole)
  (arg4 : Memref sig .tc .vmem S64x64 .f32) (harg4 : arg4.IsWhole)
  (arg5 : Memref sig .tc .vmem S1x64 .f32) (harg5 : arg5.IsWhole)
  (arg6 : Memref sig .tc .vmem S64x64 .f32) (harg6 : arg6.IsWhole)
  (arg7 : Memref sig .tc .vmem S1x64 .f32) (harg7 : arg7.IsWhole)
  (arg8 : Memref sig .tc .vmem S64x64 .f32) (harg8 : arg8.IsWhole)
  (arg9 : Memref sig .tc .vmem S1x64 .f32) (harg9 : arg9.IsWhole)
  (arg10 : Memref sig .tc .vmem S64x64 .f32) (harg10 : arg10.IsWhole)
  (arg11 : Memref sig .tc .vmem S1x64 .f32) (harg11 : arg11.IsWhole)
  (arg12 : Memref sig .tc .vmem S64x64 .f32) (harg12 : arg12.IsWhole)
  (arg13 : Memref sig .tc .vmem S1x64 .f32) (harg13 : arg13.IsWhole)
  (arg14 : Memref sig .tc .vmem S1x2048x64 .f32) (harg14 : arg14.IsWhole)
  (arg15 : Memref sig .tc .vmem S2048x64 .f32) (harg15 : arg15.IsWhole)
  (arg18 : Memref sig .tc .vmem S64x64 .f32) (harg18 : arg18.IsWhole)
  (arg19 : Memref sig .tc .vmem S1x64 .f32) (harg19 : arg19.IsWhole)
  (arg20 : Memref sig .tc .vmem S64x64 .f32) (harg20 : arg20.IsWhole)
  (arg21 : Memref sig .tc .vmem S1x64 .f32) (harg21 : arg21.IsWhole)
variable (x0 : Vec F S1x2048x64 .f32) (x1 : Vec F S1x2048x1 .f32) (x2 : Vec F S64x64 .f32) (x3 : Vec F S1x64 .f32) (x4 : Vec F S64x64 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32)
  (A : Buf (Elt F) ((c : Thread nD τ).loc main_arg1))

set_option maxHeartbeats 1000000 in
/-- A second-layer point with an element after it. -/
theorem run_second (y : Vec F S2048x64 .f32) (w18 : Vec F S64x64 .f32) (w19 : Vec F S1x64 .f32) (ht : t.val % 2 = 1 ∧ t.val < 7) : ∀ (K : PUnit → sProp 𝕄) (Wt : Waits sig Unit),
    iprop(ins c arg2 arg3 arg4 arg5 arg6 arg7 arg8 arg9 arg10 arg11 arg12 arg13 x0 x1 x2 x3 x4 x5 x6 x7 x8 x9 x10 x11 ∗ (∃ d, owns (c : Thread nD τ) arg14 fullShare d) ∗ owns (c : Thread nD τ) arg15 fullShare y ∗ owns (c : Thread nD τ) arg18 fullShare w18 ∗ owns (c : Thread nD τ) arg19 fullShare w19 ∗ kept c A (sl (t.val / 2)) (bk (t.val / 2)) ∗ owes (c : Thread nD τ) 0 Wt
        ∗ (iprop(ins c arg2 arg3 arg4 arg5 arg6 arg7 arg8 arg9 arg10 arg11 arg12 arg13 x0 x1 x2 x3 x4 x5 x6 x7 x8 x9 x10 x11 ∗ owns (c : Thread nD τ) arg14 fullShare (k0_pay4 (layerBit (grid0.coords t)) x5 x9 (blk A (bk (t.val / 2))) y x10 x11 x1) ∗ owns (c : Thread nD τ) arg15 fullShare (k0_pay3 x0 w18 w19) ∗ owns (c : Thread nD τ) arg18 fullShare w18 ∗ owns (c : Thread nD τ) arg19 fullShare w19 ∗ kept c A (sl (t.val / 2)) (bk (t.val / 2)) ∗ (∃ Wt', owes (c : Thread nD τ) 0 Wt')) -∗ K ⟨⟩))
      ⊢ wp frame (wpE (defs₀ (F := F)) Variants.none c none) Set.univ (cc0__decoder_kernel (grid0.coords t) (Memref.whole main_arg1) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 ringM (Memref.isWhole_whole _) cc0_scratch2 arg18 harg18 arg19 harg19 arg20 harg20 arg21 harg21) K := by
  intro K Wt
  have hc0 : ¬isFirst (grid0.coords t) := fun h => by have := (isFirst_iff t).mp h; omega
  have hc1 : ¬starts (grid0.coords t) := fun h => by have := (starts_iff t).mp h; omega
  have hc2 : ¬waits (grid0.coords t) := fun h => by have := (waits_iff t).mp h; omega
  have hc3 : ¬layerOne (grid0.coords t) := fun h => by have := (layerOne_iff t).mp h; omega
  have hc4 : prepares (grid0.coords t) := (prepares_iff t).mpr (by omega)
  have hc5 : layerTwo (grid0.coords t) := (layerTwo_iff t).mpr (by omega)
  haveI : Fact (¬isFirst (grid0.coords t)) := ⟨hc0⟩
  haveI : Fact (¬starts (grid0.coords t)) := ⟨hc1⟩
  haveI : Fact (¬waits (grid0.coords t)) := ⟨hc2⟩
  haveI : Fact (¬layerOne (grid0.coords t)) := ⟨hc3⟩
  haveI : Fact (prepares (grid0.coords t)) := ⟨hc4⟩
  haveI : Fact (layerTwo (grid0.coords t)) := ⟨hc5⟩
  simp only [cc0__decoder_kernel_eq_skeleton]; unfold cc0__decoder_kernel_skel
  simp only [k0_part3_eq_skeleton]; unfold k0_part3_skel
  unfold ins kept
  simp only [owns_as c arg2 harg2, owns_as c arg3 harg3, owns_as c arg4 harg4, owns_as c arg5 harg5, owns_as c arg6 harg6, owns_as c arg7 harg7, owns_as c arg8 harg8, owns_as c arg9 harg9, owns_as c arg10 harg10, owns_as c arg11 harg11, owns_as c arg12 harg12, owns_as c arg13 harg13, owns_as c arg14 harg14, owns_as c arg15 harg15, owns_as c arg18 harg18, owns_as c arg19 harg19]
  iintro ⟨⟨H2, H3, H4, H5, H6, H7, H8, H9, H10, H11, H12, H13⟩, ⟨%d14, H14⟩, H15, H18, H19, ⟨P, CW⟩, HW, Hk⟩
  unfold slotF
  sl_exec (disch := first | sl_exact hc0 | sl_exact hc1 | sl_exact hc2 | sl_exact hc3 | sl_exact hc4 | sl_exact hc5)
  sl_step
  iapply Hk
  iframe H2 H3 H4 H5 H6 H7 H8 H9 H10 H11 H12 H13
  isplitl [H14]
  · iapply (stored_as c arg14 harg14 _ _ _ ?_) $$ H14
    congr 1
    · exact load_unread _ harg7 _ _
    · exact load_unread _ harg11 _ _
    · exact blk_load c t A _ _
    · exact load_unread _ harg15 _ _
    · exact load_unread _ harg12 _ _
    · exact load_unread _ harg13 _ _
    · exact load_unread _ harg3 _ _
  isplitl [H15]
  · iapply (stored_as c arg15 harg15 _ _ _ ?_) $$ H15
    congr 1
    · exact load_unread _ harg2 _ _
    · exact load_unread _ harg18 _ _
    · exact load_unread _ harg19 _ _
  iframe H18 H19 P CW
  iexists _; iexact HW

set_option maxHeartbeats 1000000 in
/-- The last point. -/
theorem run_last (y : Vec F S2048x64 .f32) (ht : t.val = 7) : ∀ (K : PUnit → sProp 𝕄) (Wt : Waits sig Unit),
    iprop(ins c arg2 arg3 arg4 arg5 arg6 arg7 arg8 arg9 arg10 arg11 arg12 arg13 x0 x1 x2 x3 x4 x5 x6 x7 x8 x9 x10 x11 ∗ (∃ d, owns (c : Thread nD τ) arg14 fullShare d) ∗ owns (c : Thread nD τ) arg15 fullShare y ∗ kept c A (sl (t.val / 2)) (bk (t.val / 2)) ∗ owes (c : Thread nD τ) 0 Wt
        ∗ (iprop(ins c arg2 arg3 arg4 arg5 arg6 arg7 arg8 arg9 arg10 arg11 arg12 arg13 x0 x1 x2 x3 x4 x5 x6 x7 x8 x9 x10 x11 ∗ owns (c : Thread nD τ) arg14 fullShare (k0_pay4 (layerBit (grid0.coords t)) x5 x9 (blk A (bk (t.val / 2))) y x10 x11 x1) ∗ owns (c : Thread nD τ) arg15 fullShare y ∗ kept c A (sl (t.val / 2)) (bk (t.val / 2)) ∗ (∃ Wt', owes (c : Thread nD τ) 0 Wt')) -∗ K ⟨⟩))
      ⊢ wp frame (wpE (defs₀ (F := F)) Variants.none c none) Set.univ (cc0__decoder_kernel (grid0.coords t) (Memref.whole main_arg1) (Memref.isWhole_whole _) arg2 harg2 arg3 harg3 arg4 harg4 arg5 harg5 arg6 harg6 arg7 harg7 arg8 harg8 arg9 harg9 arg10 harg10 arg11 harg11 arg12 harg12 arg13 harg13 arg14 harg14 arg15 harg15 ringM (Memref.isWhole_whole _) cc0_scratch2 arg18 harg18 arg19 harg19 arg20 harg20 arg21 harg21) K := by
  intro K Wt
  have hc0 : ¬isFirst (grid0.coords t) := fun h => by have := (isFirst_iff t).mp h; omega
  have hc1 : ¬starts (grid0.coords t) := fun h => by have := (starts_iff t).mp h; omega
  have hc2 : ¬waits (grid0.coords t) := fun h => by have := (waits_iff t).mp h; omega
  have hc3 : ¬layerOne (grid0.coords t) := fun h => by have := (layerOne_iff t).mp h; omega
  have hc4 : ¬prepares (grid0.coords t) := fun h => by have := (prepares_iff t).mp h; omega
  have hc5 : layerTwo (grid0.coords t) := (layerTwo_iff t).mpr (by omega)
  haveI : Fact (¬isFirst (grid0.coords t)) := ⟨hc0⟩
  haveI : Fact (¬starts (grid0.coords t)) := ⟨hc1⟩
  haveI : Fact (¬waits (grid0.coords t)) := ⟨hc2⟩
  haveI : Fact (¬layerOne (grid0.coords t)) := ⟨hc3⟩
  haveI : Fact (¬prepares (grid0.coords t)) := ⟨hc4⟩
  haveI : Fact (layerTwo (grid0.coords t)) := ⟨hc5⟩
  simp only [cc0__decoder_kernel_eq_skeleton]; unfold cc0__decoder_kernel_skel
  simp only [k0_part3_eq_skeleton]; unfold k0_part3_skel
  unfold ins kept
  simp only [owns_as c arg2 harg2, owns_as c arg3 harg3, owns_as c arg4 harg4, owns_as c arg5 harg5, owns_as c arg6 harg6, owns_as c arg7 harg7, owns_as c arg8 harg8, owns_as c arg9 harg9, owns_as c arg10 harg10, owns_as c arg11 harg11, owns_as c arg12 harg12, owns_as c arg13 harg13, owns_as c arg14 harg14, owns_as c arg15 harg15]
  iintro ⟨⟨H2, H3, H4, H5, H6, H7, H8, H9, H10, H11, H12, H13⟩, ⟨%d14, H14⟩, H15, ⟨P, CW⟩, HW, Hk⟩
  unfold slotF
  sl_exec (disch := first | sl_exact hc0 | sl_exact hc1 | sl_exact hc2 | sl_exact hc3 | sl_exact hc4 | sl_exact hc5)
  sl_step
  iapply Hk
  iframe H2 H3 H4 H5 H6 H7 H8 H9 H10 H11 H12 H13
  isplitl [H14]
  · iapply (stored_as c arg14 harg14 _ _ _ ?_) $$ H14
    congr 1
    · exact load_unread _ harg7 _ _
    · exact load_unread _ harg11 _ _
    · exact blk_load c t A _ _
    · exact load_unread _ harg15 _ _
    · exact load_unread _ harg12 _ _
    · exact load_unread _ harg13 _ _
    · exact load_unread _ harg3 _ _
  iframe H15 P CW
  iexists _; iexact HW
end

end Cert.KernelIdeal.Gcn

end
-- ==== Proof.KernelIdeal.Inv.lean ====
/-
What the kernel holds between two points: the combined weights, the messages of the current element, and the two slots of
the adjacency scratch, each free, in flight or filled.  From it the launch's proof data.
-/
module

public import proofs.«01_k».proof.Proof.KernelIdeal.RunSecond

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The values -/

/-- Point `n`. -/
def pt (n : ℕ) : Fin cfg0.N := ⟨n % 8, lt_of_lt_of_eq (Nat.mod_lt _ (by decide)) (show 8 = cfg0.N from N_0.symm)⟩
theorem val_lt (t : Fin cfg0.N) : t.val < 8 := lt_of_lt_of_eq t.isLt (show cfg0.N = 8 from N_0)
theorem pt_val (t : Fin cfg0.N) : pt t.val = t := Fin.ext (Nat.mod_eq_of_lt (val_lt t))

/-- The first layer's combined weight and bias, and the second's. -/
def wc0 (c : Dev nD) : Vec F S64x64 .f32 := k0_pay5 (iblk m c 2 (pt 0)) (iblk m c 4 (pt 0))
def bc0 (c : Dev nD) : Vec F S1x64 .f32 := k0_pay6 (iblk m c 3 (pt 0)) (iblk m c 4 (pt 0))
def wc1 (c : Dev nD) : Vec F S64x64 .f32 := k0_pay7 (iblk m c 6 (pt 0)) (iblk m c 8 (pt 0))
def bc1 (c : Dev nD) : Vec F S1x64 .f32 := k0_pay8 (iblk m c 7 (pt 0)) (iblk m c 8 (pt 0))

/-- The first layer's messages, as an even point `n` finds them: of the latents read at the point before. -/
def msg0 (c : Dev nD) (n : ℕ) : Vec F S2048x64 .f32 := k0_pay3 (iblk m c 0 (pt (n - 1))) (wc0 m c) (bc0 m c)
/-- The second layer's, as an odd point finds them. -/
def msg1 (c : Dev nD) (n : ℕ) : Vec F S2048x64 .f32 :=
  k0_pay2 1#1 (iblk m c 5 (pt 0)) (iblk m c 9 (pt 0)) (blk (V m c main_arg1) (bk (n / 2))) (msg0 m c (n - 1)) (wc1 m c) (bc1 m c)
/-- The messages point `n` finds. -/
def msg (c : Dev nD) (n : ℕ) : Vec F S2048x64 .f32 := if n % 2 = 0 then msg0 m c n else msg1 m c n
/-- The block an odd point writes. -/
def res (c : Dev nD) (t : Fin cfg0.N) : Vec F S1x2048x64 .f32 :=
  k0_pay4 0#1 (iblk m c 5 (pt 0)) (iblk m c 9 (pt 0)) (blk (V m c main_arg1) (bk (t.val / 2))) (msg1 m c t.val) (iblk m c 10 (pt 0)) (iblk m c 11 (pt 0))
    (iblk m c 1 t)

/-! ## The invariant -/

abbrev msgM : Memref sig .tc .vmem S2048x64 .f32 := Memref.whole cc0_scratch0
abbrev wM0 : Memref sig .tc .vmem S64x64 .f32 := Memref.whole cc0_scratch3
abbrev bM0 : Memref sig .tc .vmem S1x64 .f32 := Memref.whole cc0_scratch4
abbrev wM1 : Memref sig .tc .vmem S64x64 .f32 := Memref.whole cc0_scratch5
abbrev bM1 : Memref sig .tc .vmem S1x64 .f32 := Memref.whole cc0_scratch6

/-- The message and weight scratch at anything, -/
def anything (c : Dev nD) : sProp 𝕄 :=
  iprop((∃ d, owns (c : Thread nD τ) msgM fullShare d) ∗ (∃ d, owns (c : Thread nD τ) wM0 fullShare d) ∗ (∃ d, owns (c : Thread nD τ) bM0 fullShare d)
    ∗ (∃ d, owns (c : Thread nD τ) wM1 fullShare d) ∗ (∃ d, owns (c : Thread nD τ) bM1 fullShare d))
/-- and with the messages at a value and the weights combined. -/
def combined (c : Dev nD) (y : Vec F S2048x64 .f32) : sProp 𝕄 :=
  iprop(owns (c : Thread nD τ) msgM fullShare y ∗ owns (c : Thread nD τ) wM0 fullShare (wc0 m c) ∗ owns (c : Thread nD τ) bM0 fullShare (bc0 m c)
    ∗ owns (c : Thread nD τ) wM1 fullShare (wc1 m c) ∗ owns (c : Thread nD τ) bM1 fullShare (bc1 m c))
theorem combined_any (c : Dev nD) (y : Vec F S2048x64 .f32) : combined m c y ⊢ anything c := by
  unfold combined anything
  iintro ⟨H0, H1, H2, H3, H4⟩
  isplitl [H0]; · iexists _; iexact H0
  isplitl [H1]; · iexists _; iexact H1
  isplitl [H2]; · iexists _; iexact H2
  isplitl [H3]; · iexists _; iexact H3
  iexists _; iexact H4

/-- That scratch before point `n`. -/
def scr (c : Dev nD) (n : ℕ) : sProp 𝕄 := if n = 0 ∨ n = 8 then anything c else combined m c (msg m c n)

/-- The adjacency scratch before point `n`: before and after all points both slots are free; before an even point the
    element's block is in flight and the other slot free; before an odd one the element's block is in its slot and the next
    element's, if there is one, in flight. -/
def ring (c : Dev nD) (n : ℕ) : sProp 𝕄 :=
  if n = 0 ∨ n = 8 then iprop(free c (V m c main_arg1) 0 ∗ free c (V m c main_arg1) 1)
  else if n % 2 = 0 then iprop(fly c (V m c main_arg1) (sl (n / 2)) (bk (n / 2)) ∗ free c (V m c main_arg1) (sl (n / 2 + 1)))
  else if n < 7 then iprop(kept c (V m c main_arg1) (sl (n / 2)) (bk (n / 2)) ∗ fly c (V m c main_arg1) (sl (n / 2 + 1)) (bk (n / 2 + 1)))
  else iprop(kept c (V m c main_arg1) (sl (n / 2)) (bk (n / 2)) ∗ free c (V m c main_arg1) (sl (n / 2 + 1)))

/-- What is held before point `n`. -/
def held (c : Dev nD) (n : ℕ) : sProp 𝕄 := iprop(scr m c n ∗ ring m c n ∗ ∃ r, prngReg c r)

/-! ## The proof data -/

/-- The arrays as the region finds them; every operand window left as it was found, the result window at `res`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, _⟩ => iblk m c 8 t | ⟨9, _⟩ => iblk m c 9 t | ⟨10, _⟩ => iblk m c 10 t | ⟨11, _⟩ => iblk m c 11 t
    | ⟨12, _⟩ => res m c t
  Φ t := held m c t.val
  q _ := fullShare
  owed _ := 0

theorem A_eq (c : Dev nD) (w : Fin cfg0.W) : (dats m 0 c).A w = V m c (Pipeline.arrRef spec0 w) := by dsimp only [dats]
theorem held_castSucc (c : Dev nD) (t : Fin cfg0.N) : (dats m 0 c).Φ t.castSucc = held m c t.val := by
  dsimp only [dats]; simp only [Fin.val_castSucc]
theorem held_succ (c : Dev nD) (t : Fin cfg0.N) : (dats m 0 c).Φ t.succ = held m c (t.val + 1) := by
  dsimp only [dats]; simp only [Fin.val_succ]
theorem after_res (c : Dev nD) (t : Fin cfg0.N) : (dats m 0 c).after 12 t = res m c t := by dsimp only [dats]

/-- An operand window that the body leaves as it found it holds its block at every point. -/
theorem before_of (c : Dev nD) (w : Fin cfg0.W) (hw : (cfg0.win w).isOut = false) (hl : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) ((dats m 0 c).after w t) = iblk m c w t)
    (t : Fin cfg0.N) (d) : (dats m 0 c).before w t d = (cfg0.win w).fill (cfg0.grid.coords t) d (iblk m c w t) := by
  have hb : ∀ t, (dats m 0 c).blockOf w t = iblk m c w t := fun t => by unfold Dat.blockOf iblk; rw [A_eq]
  rw [(dats m 0 c).before_in_eq_fetched w hw hl hclip (fun t => by rw [hkeep, hb]) t d]
  unfold Dat.fetched; rw [hb]

section
variable (c : Dev nD) (t : Fin cfg0.N) (d)
theorem before_0 : (dats m 0 c).before 0 t d = iblk m c 0 t := before_of m c 0 rfl (fun _ => rfl) (fun _ _ _ => rfl) (fun _ => by dsimp only [dats]) t d
theorem before_1 : (dats m 0 c).before 1 t d = iblk m c 1 t := before_of m c 1 rfl (fun _ => rfl) (fun _ _ _ => rfl) (fun _ => by dsimp only [dats]) t d
theorem before_2 : (dats m 0 c).before 2 t d = iblk m c 2 t := before_of m c 2 rfl (fun _ => rfl) (fun _ _ _ => rfl) (fun _ => by dsimp only [dats]) t d
theorem before_3 : (dats m 0 c).before 3 t d = iblk m c 3 t := before_of m c 3 rfl (fun _ => rfl) (fun _ _ _ => rfl) (fun _ => by dsimp only [dats]) t d
theorem before_4 : (dats m 0 c).before 4 t d = iblk m c 4 t := before_of m c 4 rfl (fun _ => rfl) (fun _ _ _ => rfl) (fun _ => by dsimp only [dats]) t d
theorem before_5 : (dats m 0 c).before 5 t d = iblk m c 5 t := before_of m c 5 rfl (fun _ => rfl) (fun _ _ _ => rfl) (fun _ => by dsimp only [dats]) t d
theorem before_6 : (dats m 0 c).before 6 t d = iblk m c 6 t := before_of m c 6 rfl (fun _ => rfl) (fun _ _ _ => rfl) (fun _ => by dsimp only [dats]) t d
theorem before_7 : (dats m 0 c).before 7 t d = iblk m c 7 t := before_of m c 7 rfl (fun _ => rfl) (fun _ _ _ => rfl) (fun _ => by dsimp only [dats]) t d
theorem before_8 : (dats m 0 c).before 8 t d = iblk m c 8 t := before_of m c 8 rfl (fun _ => rfl) (fun _ _ _ => rfl) (fun _ => by dsimp only [dats]) t d
theorem before_9 : (dats m 0 c).before 9 t d = iblk m c 9 t := before_of m c 9 rfl (fun _ => rfl) (fun _ _ _ => rfl) (fun _ => by dsimp only [dats]) t d
theorem before_10 : (dats m 0 c).before 10 t d = iblk m c 10 t := before_of m c 10 rfl (fun _ => rfl) (fun _ _ _ => rfl) (fun _ => by dsimp only [dats]) t d
theorem before_11 : (dats m 0 c).before 11 t d = iblk m c 11 t := before_of m c 11 rfl (fun _ => rfl) (fun _ _ _ => rfl) (fun _ => by dsimp only [dats]) t d
end

/-! ## The operand windows together -/

/-- The twelve operand windows' staging buffers at point `t`, each at its block. -/
def insAt (c : Dev nD) (t : Fin cfg0.N) : sProp 𝕄 :=
  ins c (st0_0 t) (st0_1 t) (st0_2 t) (st0_3 t) (st0_4 t) (st0_5 t) (st0_6 t) (st0_7 t) (st0_8 t) (st0_9 t) (st0_10 t) (st0_11 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- What the body is called with, the operand windows taken together, -/
theorem staged_in (c : Dev nD) (t : Fin cfg0.N) :
    (bigSep Finset.univ fun w : Fin cfg0.W => iprop(∃ d, owns (c : Thread nD τ) ((cfg0.win w).stage (cfg0.slots t w)) fullShare ((dats m 0 c).before w t d)))
      ⊢ (iprop(insAt m c t ∗ ∃ d, owns (c : Thread nD τ) (st0_12 t) fullShare ((dats m 0 c).before 12 t d)) : sProp 𝕄) := by
  rw [bigSep_W0]
  simp only [before_0, before_1, before_2, before_3, before_4, before_5, before_6, before_7, before_8, before_9, before_10, before_11]
  unfold insAt ins
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  isplitr [H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact H12
/-- and what it returns. -/
theorem staged_out (c : Dev nD) (t : Fin cfg0.N) :
    (iprop(insAt m c t ∗ (dats m 0 c).leavesExact 12 t) : sProp 𝕄) ⊢ bigSep Finset.univ fun w : Fin cfg0.W => (dats m 0 c).leavesExact w t := by
  rw [bigSep_W0]
  unfold insAt ins
  iintro ⟨⟨H0, H1, H2, H3, H4, H5, H6, H7, H8, H9, H10, H11⟩, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The result window is idle at the even points, and handed back as found, -/
theorem idle_even : ∀ t : Fin cfg0.N, t.val % 2 = 0 → cfg0.idle 12 (cfg0.grid.coords t) = true :=
  (by decide +kernel : ∀ t : Fin grid0.N, t.val % 2 = 0 → idle0 12 (grid0.coords t) = true)
theorem live_odd : ∀ t : Fin cfg0.N, t.val % 2 = 1 → cfg0.idle 12 (cfg0.grid.coords t) = false :=
  (by decide +kernel : ∀ t : Fin grid0.N, t.val % 2 = 1 → idle0 12 (grid0.coords t) = false)
theorem leaves_even (c : Dev nD) (t : Fin cfg0.N) (h : t.val % 2 = 0) :
    (dats m 0 c).leavesExact 12 t = iprop(∃ d, owns (c : Thread nD τ) (st0_12 t) fullShare ((dats m 0 c).before 12 t d)) :=
  Dat.leavesExact_idle _ 12 t (idle_even t h) (Bool.eq_false_iff.mpr fun hf => by have := (flush0_12 t).mp hf; omega)
/-- and live at the odd ones. -/
theorem leaves_odd (c : Dev nD) (t : Fin cfg0.N) (h : t.val % 2 = 1) :
    (dats m 0 c).leavesExact 12 t = owns (c : Thread nD τ) (st0_12 t) fullShare (res m c t) := by
  unfold Dat.leavesExact; rw [live_odd t h]; exact congrArg (owns (c : Thread nD τ) (st0_12 t) fullShare) (after_res m c t)

/-- A weight window holds one block throughout. -/
theorem const_2 (c : Dev nD) (t : Fin cfg0.N) : iblk m c 2 t = iblk m c 2 (pt 0) := rfl
theorem const_3 (c : Dev nD) (t : Fin cfg0.N) : iblk m c 3 t = iblk m c 3 (pt 0) := rfl
theorem const_4 (c : Dev nD) (t : Fin cfg0.N) : iblk m c 4 t = iblk m c 4 (pt 0) := rfl
theorem const_5 (c : Dev nD) (t : Fin cfg0.N) : iblk m c 5 t = iblk m c 5 (pt 0) := rfl
theorem const_6 (c : Dev nD) (t : Fin cfg0.N) : iblk m c 6 t = iblk m c 6 (pt 0) := rfl
theorem const_7 (c : Dev nD) (t : Fin cfg0.N) : iblk m c 7 t = iblk m c 7 (pt 0) := rfl
theorem const_8 (c : Dev nD) (t : Fin cfg0.N) : iblk m c 8 t = iblk m c 8 (pt 0) := rfl
theorem const_9 (c : Dev nD) (t : Fin cfg0.N) : iblk m c 9 t = iblk m c 9 (pt 0) := rfl
theorem const_10 (c : Dev nD) (t : Fin cfg0.N) : iblk m c 10 t = iblk m c 10 (pt 0) := rfl
theorem const_11 (c : Dev nD) (t : Fin cfg0.N) : iblk m c 11 t = iblk m c 11 (pt 0) := rfl

end Cert.KernelIdeal.Gcn

end
-- ==== Proof.KernelIdeal.Body.lean ====
/-
The body at every point: what is held before it and the windows' blocks are what its run needs, and what the run leaves is
what is held after it.
-/
module

public import proofs.«01_k».proof.Proof.KernelIdeal.Inv

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What is held before and after a point, by the kind of point -/

section
variable (c : Dev nD) (t : Fin cfg0.N)

theorem sl_two (n : ℕ) : sl (n + 2) = sl n := Fin.ext (Nat.add_mod_right n 2)

theorem scr_ends (n : ℕ) (h : n = 0 ∨ n = 8) : scr m c n = anything c := if_pos h
theorem scr_mid (n : ℕ) (h : ¬(n = 0 ∨ n = 8)) : scr m c n = combined m c (msg m c n) := if_neg h
theorem msg_even (n : ℕ) (h : n % 2 = 0) : msg m c n = msg0 m c n := if_pos h
theorem msg_odd (n : ℕ) (h : n % 2 = 1) : msg m c n = msg1 m c n := if_neg (by omega)

theorem ring_ends (n : ℕ) (h : n = 0 ∨ n = 8) :
    ring m c n = iprop(free c (V m c main_arg1) 0 ∗ free c (V m c main_arg1) 1) := if_pos h
theorem ring_even (n : ℕ) (h : ¬(n = 0 ∨ n = 8)) (he : n % 2 = 0) :
    ring m c n = iprop(fly c (V m c main_arg1) (sl (n / 2)) (bk (n / 2)) ∗ free c (V m c main_arg1) (sl (n / 2 + 1))) := by
  unfold ring; rw [if_neg h, if_pos he]
theorem ring_odd (n : ℕ) (h : n < 7) (he : n % 2 = 1) :
    ring m c n = iprop(kept c (V m c main_arg1) (sl (n / 2)) (bk (n / 2)) ∗ fly c (V m c main_arg1) (sl (n / 2 + 1)) (bk (n / 2 + 1))) := by
  unfold ring; rw [if_neg (by omega), if_neg (by omega), if_pos h]
theorem ring_seven (n : ℕ) (h : n = 7) :
    ring m c n = iprop(kept c (V m c main_arg1) (sl (n / 2)) (bk (n / 2)) ∗ free c (V m c main_arg1) (sl (n / 2 + 1))) := by
  subst h; rfl

/-- The first point's element is element 0 in slot 0, and the element after it goes to slot 1. -/
theorem ring_start (h : t.val = 0) :
    ring m c t.val = iprop(free c (V m c main_arg1) (sl (t.val / 2)) ∗ free c (V m c main_arg1) (sl (t.val / 2 + 1))) := by
  rw [ring_ends m c _ (Or.inl h), h]; rfl

/-- The messages the first point leaves. -/
theorem msg_first (h : t.val = 0) :
    k0_pay2 (layerBit (grid0.coords t)) (iblk m c 5 t) (iblk m c 9 t) (blk (V m c main_arg1) (bk (t.val / 2)))
      (k0_pay9 (iblk m c 0 t) (k0_pay5 (iblk m c 2 t) (iblk m c 4 t)) (k0_pay6 (iblk m c 3 t) (iblk m c 4 t)))
      (k0_pay7 (iblk m c 6 t) (iblk m c 8 t)) (k0_pay8 (iblk m c 7 t) (iblk m c 8 t)) = msg m c (t.val + 1) := by
  rw [msg_odd m c _ (by omega), layerBit_even t (by omega)]
  have ht : t = pt 0 := Fin.ext h
  subst ht; rfl
/-- The messages another even point leaves. -/
theorem msg_of_even (h : t.val % 2 = 0) :
    k0_pay2 (layerBit (grid0.coords t)) (iblk m c 5 t) (iblk m c 9 t) (blk (V m c main_arg1) (bk (t.val / 2)))
      (msg0 m c t.val) (wc1 m c) (bc1 m c) = msg m c (t.val + 1) := by
  rw [msg_odd m c _ (by omega), layerBit_even t h]
  unfold msg1
  rw [show (t.val + 1) / 2 = t.val / 2 by omega]; rfl
/-- The messages an odd point leaves. -/
theorem msg_of_odd (h : t.val % 2 = 1) : k0_pay3 (iblk m c 0 t) (wc0 m c) (bc0 m c) = msg m c (t.val + 1) := by
  rw [msg_even m c _ (by omega)]
  unfold msg0
  rw [Nat.add_sub_cancel, pt_val]
/-- The block an odd point writes. -/
theorem res_of_odd (h : t.val % 2 = 1) :
    k0_pay4 (layerBit (grid0.coords t)) (iblk m c 5 t) (iblk m c 9 t) (blk (V m c main_arg1) (bk (t.val / 2))) (msg1 m c t.val)
      (iblk m c 10 t) (iblk m c 11 t) (iblk m c 1 t) = res m c t := by
  rw [layerBit_odd t h]; rfl
/-- The combined weights, read at any point. -/
theorem wc0_eq : k0_pay5 (iblk m c 2 t) (iblk m c 4 t) = wc0 m c := rfl
theorem bc0_eq : k0_pay6 (iblk m c 3 t) (iblk m c 4 t) = bc0 m c := rfl
theorem wc1_eq : k0_pay7 (iblk m c 6 t) (iblk m c 8 t) = wc1 m c := rfl
theorem bc1_eq : k0_pay8 (iblk m c 7 t) (iblk m c 8 t) = bc1 m c := rfl

/-! ## The five kinds of point -/

/-- The body's triple at point `t`. -/
def Step : Prop :=
  iprop(held m c t.val ∗ (dats m 0 c).owesAt () t.castSucc ∗ insAt m c t ∗ ∃ d, owns (c : Thread nD τ) (st0_12 t) fullShare ((dats m 0 c).before 12 t d))
    ⊢ wp frame (wpE (defs₀ (F := F)) Variants.none c none) Set.univ (bodyAt0 t) fun _ =>
      (iprop(held m c (t.val + 1) ∗ (dats m 0 c).owesAt () t.succ ∗ insAt m c t ∗ (dats m 0 c).leavesExact 12 t) : sProp 𝕄)
end

/-- The first point. -/
theorem step_first (c : Dev nD) (t : Fin cfg0.N) (ht : t.val = 0) : Step m c t := by
  unfold Step bodyAt0 held Dat.owesAt Pipeline.owesWithin insAt
  rw [show (dats m 0 c).owed t.castSucc = 0 from rfl, show (dats m 0 c).owed t.succ = 0 from rfl,
    leaves_even m c t (by omega), scr_ends m c _ (Or.inl ht), scr_mid m c (t.val + 1) (by omega), ring_start m c t ht, ring_odd m c (t.val + 1) (by omega) (by omega), ← msg_first m c t ht, show (t.val + 1) / 2 = t.val / 2 by omega]
  iintro ⟨⟨Hs, ⟨Hf, Hf'⟩, Hg⟩, ⟨%W, -, HW⟩, Hi, Ho⟩
  iapply (run_first c t _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg1) ht _ W)
  unfold anything
  icases Hs with ⟨Hm, Hw0, Hb0, Hw1, Hb1⟩
  isplitl [Hi]; · iexact Hi
  isplitl [Hm]; · iexact Hm
  isplitl [Hw0]; · iexact Hw0
  isplitl [Hb0]; · iexact Hb0
  isplitl [Hw1]; · iexact Hw1
  isplitl [Hb1]; · iexact Hb1
  isplitl [Hf]; · iexact Hf
  isplitl [Hf']; · iexact Hf'
  isplitl [HW]; · iexact HW
  iintro ⟨Hi, Hm, Hw0, Hb0, Hw1, Hb1, Hf, Hf', ⟨%W', HW'⟩⟩
  unfold combined
  isplitl [Hm Hw0 Hb0 Hw1 Hb1 Hf Hf' Hg]
  · isplitl [Hm Hw0 Hb0 Hw1 Hb1]
    · isplitl [Hm]; · iexact Hm
      isplitl [Hw0]; · iexact Hw0
      isplitl [Hb0]; · iexact Hb0
      isplitl [Hw1]; · iexact Hw1
      iexact Hb1
    isplitr [Hg]
    · isplitl [Hf]; · iexact Hf
      iexact Hf'
    iexact Hg
  isplitl [HW']
  · iexists W'; isplitr; · ipureintro; exact fun _ _ => Or.inl trivial
    iexact HW'
  isplitl [Hi]; · iexact Hi
  iexact Ho
/-- A first-layer point with a block to start. -/
theorem step_one (c : Dev nD) (t : Fin cfg0.N) (ht : t.val % 2 = 0 ∧ 0 < t.val ∧ t.val < 6) : Step m c t := by
  unfold Step bodyAt0 held Dat.owesAt Pipeline.owesWithin insAt
  rw [show (dats m 0 c).owed t.castSucc = 0 from rfl, show (dats m 0 c).owed t.succ = 0 from rfl,
    leaves_even m c t (by omega), scr_mid m c t.val (by omega), scr_mid m c (t.val + 1) (by omega), ring_even m c t.val (by omega) (by omega), ring_odd m c (t.val + 1) (by omega) (by omega), ← msg_of_even m c t ht.1, msg_even m c t.val ht.1, show (t.val + 1) / 2 = t.val / 2 by omega]
  iintro ⟨⟨Hs, ⟨Hf, Hf'⟩, Hg⟩, ⟨%W, -, HW⟩, Hi, Ho⟩
  iapply (run_one c t _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg1) (msg0 m c t.val) (wc1 m c) (bc1 m c) ht _ W)
  unfold combined
  icases Hs with ⟨Hm, Hw0, Hb0, Hw1, Hb1⟩
  isplitl [Hi]; · iexact Hi
  isplitl [Hm]; · iexact Hm
  isplitl [Hw1]; · iexact Hw1
  isplitl [Hb1]; · iexact Hb1
  isplitl [Hf]; · iexact Hf
  isplitl [Hf']; · iexact Hf'
  isplitl [HW]; · iexact HW
  iintro ⟨Hi, Hm, Hw1, Hb1, Hf, Hf', ⟨%W', HW'⟩⟩
  isplitl [Hm Hw0 Hb0 Hw1 Hb1 Hf Hf' Hg]
  · isplitl [Hm Hw0 Hb0 Hw1 Hb1]
    · isplitl [Hm]; · iexact Hm
      isplitl [Hw0]; · iexact Hw0
      isplitl [Hb0]; · iexact Hb0
      isplitl [Hw1]; · iexact Hw1
      iexact Hb1
    isplitr [Hg]
    · isplitl [Hf]; · iexact Hf
      iexact Hf'
    iexact Hg
  isplitl [HW']
  · iexists W'; isplitr; · ipureintro; exact fun _ _ => Or.inl trivial
    iexact HW'
  isplitl [Hi]; · iexact Hi
  iexact Ho
/-- The last first-layer point. -/
theorem step_one_last (c : Dev nD) (t : Fin cfg0.N) (ht : t.val = 6) : Step m c t := by
  unfold Step bodyAt0 held Dat.owesAt Pipeline.owesWithin insAt
  rw [show (dats m 0 c).owed t.castSucc = 0 from rfl, show (dats m 0 c).owed t.succ = 0 from rfl,
    leaves_even m c t (by omega), scr_mid m c t.val (by omega), scr_mid m c (t.val + 1) (by omega), ring_even m c t.val (by omega) (by omega), ring_seven m c (t.val + 1) (by omega), ← msg_of_even m c t (by omega), msg_even m c t.val (by omega), show (t.val + 1) / 2 = t.val / 2 by omega]
  iintro ⟨⟨Hs, ⟨Hf, Hf'⟩, Hg⟩, ⟨%W, -, HW⟩, Hi, Ho⟩
  iapply (run_one_last c t _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg1) (msg0 m c t.val) (wc1 m c) (bc1 m c) ht _ W)
  unfold combined
  icases Hs with ⟨Hm, Hw0, Hb0, Hw1, Hb1⟩
  isplitl [Hi]; · iexact Hi
  isplitl [Hm]; · iexact Hm
  isplitl [Hw1]; · iexact Hw1
  isplitl [Hb1]; · iexact Hb1
  isplitl [Hf]; · iexact Hf
  isplitl [HW]; · iexact HW
  iintro ⟨Hi, Hm, Hw1, Hb1, Hf, ⟨%W', HW'⟩⟩
  isplitl [Hm Hw0 Hb0 Hw1 Hb1 Hf Hf' Hg]
  · isplitl [Hm Hw0 Hb0 Hw1 Hb1]
    · isplitl [Hm]; · iexact Hm
      isplitl [Hw0]; · iexact Hw0
      isplitl [Hb0]; · iexact Hb0
      isplitl [Hw1]; · iexact Hw1
      iexact Hb1
    isplitr [Hg]
    · isplitl [Hf]; · iexact Hf
      iexact Hf'
    iexact Hg
  isplitl [HW']
  · iexists W'; isplitr; · ipureintro; exact fun _ _ => Or.inl trivial
    iexact HW'
  isplitl [Hi]; · iexact Hi
  iexact Ho
/-- A second-layer point with an element to come. -/
theorem step_second (c : Dev nD) (t : Fin cfg0.N) (ht : t.val % 2 = 1 ∧ t.val < 7) : Step m c t := by
  unfold Step bodyAt0 held Dat.owesAt Pipeline.owesWithin insAt
  rw [show (dats m 0 c).owed t.castSucc = 0 from rfl, show (dats m 0 c).owed t.succ = 0 from rfl,
    leaves_odd m c t (by omega), scr_mid m c t.val (by omega), scr_mid m c (t.val + 1) (by omega), ring_odd m c t.val ht.2 ht.1, ring_even m c (t.val + 1) (by omega) (by omega), ← msg_of_odd m c t ht.1, msg_odd m c t.val ht.1, ← res_of_odd m c t ht.1, show (t.val + 1) / 2 = t.val / 2 + 1 by omega, sl_two]
  iintro ⟨⟨Hs, ⟨Hf, Hf'⟩, Hg⟩, ⟨%W, -, HW⟩, Hi, ⟨%d, Ho⟩⟩
  iapply (run_second c t _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg1) (msg1 m c t.val) (wc0 m c) (bc0 m c) ht _ W)
  unfold combined
  icases Hs with ⟨Hm, Hw0, Hb0, Hw1, Hb1⟩
  isplitl [Hi]; · iexact Hi
  isplitl [Ho]; · iexists _; iexact Ho
  isplitl [Hm]; · iexact Hm
  isplitl [Hw0]; · iexact Hw0
  isplitl [Hb0]; · iexact Hb0
  isplitl [Hf]; · iexact Hf
  isplitl [HW]; · iexact HW
  iintro ⟨Hi, Ho, Hm, Hw0, Hb0, Hf, ⟨%W', HW'⟩⟩
  ihave Hf := (free_of_kept c (V m c main_arg1) (sl (t.val / 2)) (bk (t.val / 2))) $$ Hf
  isplitl [Hm Hw0 Hb0 Hw1 Hb1 Hf' Hf Hg]
  · isplitl [Hm Hw0 Hb0 Hw1 Hb1]
    · isplitl [Hm]; · iexact Hm
      isplitl [Hw0]; · iexact Hw0
      isplitl [Hb0]; · iexact Hb0
      isplitl [Hw1]; · iexact Hw1
      iexact Hb1
    isplitr [Hg]
    · isplitl [Hf']; · iexact Hf'
      iexact Hf
    iexact Hg
  isplitl [HW']
  · iexists W'; isplitr; · ipureintro; exact fun _ _ => Or.inl trivial
    iexact HW'
  isplitl [Hi]; · iexact Hi
  iexact Ho
/-- The last point. -/
theorem step_last (c : Dev nD) (t : Fin cfg0.N) (ht : t.val = 7) : Step m c t := by
  unfold Step bodyAt0 held Dat.owesAt Pipeline.owesWithin insAt
  rw [show (dats m 0 c).owed t.castSucc = 0 from rfl, show (dats m 0 c).owed t.succ = 0 from rfl,
    leaves_odd m c t (by omega), scr_mid m c t.val (by omega), scr_ends m c (t.val + 1) (by omega), ring_seven m c t.val ht, ring_ends m c (t.val + 1) (by omega), msg_odd m c t.val (by omega), ← res_of_odd m c t (by omega), show sl (t.val / 2 + 1) = 0 by rw [ht]; rfl]
  iintro ⟨⟨Hs, ⟨Hf, Hf'⟩, Hg⟩, ⟨%W, -, HW⟩, Hi, ⟨%d, Ho⟩⟩
  iapply (run_last c t _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (V m c main_arg1) (msg1 m c t.val) ht _ W)
  unfold combined
  icases Hs with ⟨Hm, Hw0, Hb0, Hw1, Hb1⟩
  isplitl [Hi]; · iexact Hi
  isplitl [Ho]; · iexists _; iexact Ho
  isplitl [Hm]; · iexact Hm
  isplitl [Hf]; · iexact Hf
  isplitl [HW]; · iexact HW
  iintro ⟨Hi, Ho, Hm, Hf, ⟨%W', HW'⟩⟩
  ihave Hf := (free_of_kept c (V m c main_arg1) (sl (t.val / 2)) (bk (t.val / 2))) $$ Hf
  rw [show sl (t.val / 2) = 1 by rw [ht]; rfl]
  isplitl [Hm Hw0 Hb0 Hw1 Hb1 Hf Hf' Hg]
  · isplitl [Hm Hw0 Hb0 Hw1 Hb1]
    · iapply (combined_any m c (msg1 m c t.val))
      unfold combined
      isplitl [Hm]; · iexact Hm
      isplitl [Hw0]; · iexact Hw0
      isplitl [Hb0]; · iexact Hb0
      isplitl [Hw1]; · iexact Hw1
      iexact Hb1
    isplitr [Hg]
    · isplitl [Hf']; · iexact Hf'
      iexact Hf
    iexact Hg
  isplitl [HW']
  · iexists W'; isplitr; · ipureintro; exact fun _ _ => Or.inl trivial
    iexact HW'
  isplitl [Hi]; · iexact Hi
  iexact Ho
/-- Every point is one of the five. -/
theorem step (c : Dev nD) (t : Fin cfg0.N) : Step m c t := by
  have h := val_lt t
  by_cases h0 : t.val = 0
  · exact step_first m c t h0
  by_cases h6 : t.val = 6
  · exact step_one_last m c t h6
  by_cases h7 : t.val = 7
  · exact step_last m c t h7
  by_cases he : t.val % 2 = 0
  · exact step_one m c t (by omega)
  · exact step_second m c t (by omega)

/-! ## The body obligation -/

theorem defs₀_row (t : Fin cfg0.N) : defs₀ (F := F) .tc cfg0.body (cfg0.bodyArgs t (cfg0.slots t)) = bodyAt0 t := by
  unfold defs₀; rw [Defs.onTc_tc]

/-- The step with the windows as the launch lists them. -/
theorem step_listed (c : Dev nD) (t : Fin cfg0.N) :
    iprop((dats m 0 c).Φ t.castSucc ∗ (dats m 0 c).owesAt () t.castSucc
      ∗ bigSep Finset.univ fun w : Fin cfg0.W => iprop(∃ d, owns (c : Thread nD τ) ((cfg0.win w).stage (cfg0.slots t w)) fullShare ((dats m 0 c).before w t d)))
    ⊢ wp frame (wpE (defs₀ (F := F)) Variants.none c none) Set.univ (bodyAt0 t) fun _ =>
      (iprop((dats m 0 c).Φ t.succ ∗ (dats m 0 c).owesAt () t.succ ∗ bigSep Finset.univ fun w : Fin cfg0.W => (dats m 0 c).leavesExact w t) : sProp 𝕄) := by
  rw [held_castSucc, held_succ]
  refine (BIClass.sep_mono .rfl (BIClass.sep_mono .rfl (staged_in m c t))).trans ((step m c t).trans ?_)
  exact (wp _ _ _ _).mono fun _ => BIClass.sep_mono .rfl (BIClass.sep_mono .rfl (staged_out m c t))

theorem body_obligation (c : Dev nD) : BodyObligation (dats (F := F) m 0 c) (defs₀ (F := F)) Variants.none () Set.univ := fun t => by
  rw [defs₀_row]
  exact step_listed m c t

end Cert.KernelIdeal.Gcn

end
-- ==== Proof.KernelIdeal.Launch.lean ====
/-
The launch: the region's own cells and HBM operand, the invariant got from what the launch hands over and given back after
the last point, and the run with every argument unchanged, every counter at zero and the result array as the points left
it.
-/
module

public import proofs.«01_k».proof.Proof.KernelIdeal.Body

@[expose] public section

set_option maxRecDepth 16384

noncomputable section

namespace Cert.KernelIdeal.Gcn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the launch hands over -/

/-- The kernel's own eight cells: four of each slot. -/
abbrev osem0 : Fin 8 → SemLoc sig :=
  fun j => (![cellR 0 0, cellR 0 1, cellR 0 2, cellR 0 3, cellR 1 0, cellR 1 1, cellR 1 2, cellR 1 3] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 0 1 ∗ cellP c 0 2 ∗ cellP c 0 3 ∗ cellP c 1 0 ∗ cellP c 1 1 ∗ cellP c 1 2 ∗ cellP c 1 3) := by
  rw [Pipeline.ownSems0_eq_of_list c osem0 [0, 1, 2, 3, 4, 5, 6, 7] (by decide) (by decide)]; rfl
/-- The adjacency operand stays in HBM. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop(((c : Thread nD τ).loc main_arg1) ↦{fullShare} V m c main_arg1) := by
  rw [BI.bigSep_eq_bigSepL_of_eq [main_arg1] (by decide) (by decide)]; rfl

theorem handed_eq (c : Dev nD) :
    (Pipeline.ΦD osem0 spec0 H0 (V m) c : sProp 𝕄)
      = iprop(iprop((∃ d, owns (c : Thread nD τ) msgM fullShare d)
            ∗ (∃ f : Buf (Elt F) ((c : Thread nD τ).loc cc0_scratch1), ((c : Thread nD τ).loc cc0_scratch1) ↦{fullShare} f)
            ∗ (∃ d, owns (c : Thread nD τ) wM0 fullShare d) ∗ (∃ d, owns (c : Thread nD τ) bM0 fullShare d)
            ∗ (∃ d, owns (c : Thread nD τ) wM1 fullShare d) ∗ (∃ d, owns (c : Thread nD τ) bM1 fullShare d))
          ∗ (∃ r, prngReg c r)
          ∗ iprop(cellP c 0 0 ∗ cellP c 0 1 ∗ cellP c 0 2 ∗ cellP c 0 3 ∗ cellP c 1 0 ∗ cellP c 1 1 ∗ cellP c 1 2 ∗ cellP c 1 3)
          ∗ ((c : Thread nD τ).loc main_arg1) ↦{fullShare} V m c main_arg1) := by
  rw [Pipeline.ΦD_eq, scopedRest0_eq, ownSems00_eq, hbmPts0_eq]
  simp only [msgM, wM0, bM0, wM1, bM1, owns_whole]; try rfl

/-- The scratch is its two slots. -/
theorem slots_of (c : Dev nD) (f : Buf (Elt F) ((c : Thread nD τ).loc cc0_scratch1)) :
    (((c : Thread nD τ).loc cc0_scratch1) ↦{fullShare} f : sProp 𝕄) ⊢ iprop(slotF c 0 f ∗ slotF c 1 f) := by rw [whole_slots]
/-- A free slot, its chunks joined. -/
theorem free_of (c : Dev nD) (s : Fin 2) (f : Buf (Elt F) ((c : Thread nD τ).loc cc0_scratch1)) :
    iprop(slotF c s f ∗ four (cellP c s) ∗ four (wholeP c (V m c main_arg1) s)) ⊢ (free c (V m c main_arg1) s : sProp 𝕄) := by
  unfold free; rw [slot_four]
  iintro H; iexists f; iexact H
theorem of_free (c : Dev nD) (s : Fin 2) :
    (free c (V m c main_arg1) s : sProp 𝕄) ⊢ iprop(∃ f : Buf (Elt F) ((c : Thread nD τ).loc cc0_scratch1), slotF c s f ∗ four (cellP c s) ∗ four (wholeP c (V m c main_arg1) s)) := by
  unfold free
  iintro ⟨%f, H⟩
  iexists f; rw [slot_four]; iexact H

theorem hin (c : Dev nD) : Pipeline.ΦD osem0 spec0 H0 (V m) c ⊢ (dats m 0 c).Φ 0 := by
  rw [handed_eq, show (dats m 0 c).Φ 0 = held m c 0 from rfl]
  unfold held
  rw [scr_ends m c 0 (Or.inl rfl), ring_ends m c 0 (Or.inl rfl)]
  unfold anything
  iintro ⟨⟨Hm, ⟨%f, Hs⟩, H3, H4, H5, H6⟩, Hg, ⟨C0, C1, C2, C3, C4, C5, C6, C7⟩, HA⟩
  ihave Hs := (slots_of c f) $$ Hs
  icases Hs with ⟨S0, S1⟩
  ihave HA := (operand_copies c (V m c main_arg1)).1 $$ HA
  icases HA with ⟨A0, A1⟩
  isplitl [Hm H3 H4 H5 H6]
  · isplitl [Hm]; · iexact Hm
    isplitl [H3]; · iexact H3
    isplitl [H4]; · iexact H4
    isplitl [H5]; · iexact H5
    iexact H6
  isplitr [Hg]
  · isplitl [S0 C0 C1 C2 C3 A0]
    · iapply (free_of m c 0 f)
      isplitl [S0]; · iexact S0
      isplitr [A0]
      · isplitl [C0]; · iexact C0
        isplitl [C1]; · iexact C1
        isplitl [C2]; · iexact C2
        iexact C3
      iexact A0
    · iapply (free_of m c 1 f)
      isplitl [S1]; · iexact S1
      isplitr [A1]
      · isplitl [C4]; · iexact C4
        isplitl [C5]; · iexact C5
        isplitl [C6]; · iexact C6
        iexact C7
      iexact A1
  iexact Hg

theorem hout (c : Dev nD) : (dats m 0 c).Φ (Fin.last cfg0.N) ⊢ Pipeline.ΦD osem0 spec0 H0 (V m) c := by
  rw [handed_eq, show (dats m 0 c).Φ (Fin.last cfg0.N) = held m c 8 from rfl]
  unfold held
  rw [scr_ends m c 8 (Or.inr rfl), ring_ends m c 8 (Or.inr rfl)]
  unfold anything
  iintro ⟨⟨Hm, H3, H4, H5, H6⟩, ⟨F0, F1⟩, Hg⟩
  ihave F0 := (of_free m c 0) $$ F0
  ihave F1 := (of_free m c 1) $$ F1
  icases F0 with ⟨%f, S0, ⟨C0, C1, C2, C3⟩, A0⟩
  icases F1 with ⟨%g, S1, ⟨C4, C5, C6, C7⟩, A1⟩
  ihave Hs := (slots_join c f g) $$ [S0 S1]
  · isplitl [S0]; · iexact S0
    iexact S1
  ihave HA := (operand_copies c (V m c main_arg1)).2 $$ [A0 A1]
  · isplitl [A0]; · iexact A0
    iexact A1
  isplitl [Hm Hs H3 H4 H5 H6]
  · isplitl [Hm]; · iexact Hm
    isplitl [Hs]; · iexact Hs
    isplitl [H3]; · iexact H3
    isplitl [H4]; · iexact H4
    isplitl [H5]; · iexact H5
    iexact H6
  isplitl [Hg]; · iexact Hg
  isplitr [HA]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  iexact HA

/-! ## The run -/

/-- @main up to the region. -/
theorem main_prefix : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every fair execution of @main ends, each windowed array at what the points left, every other array as the region found
    it and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_prefix m) (hA := A_eq m) (hin := hin m) (hout := hout m)

/-- The arguments end as they were launched. -/
theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).1 4).trans (((dats m 0 c).arrAt_in 4 rfl _).trans ((A_eq m c 4).trans (V_main_arg5 m c))),
      ((h c).2 main_arg6 (Pipeline.mem_restRefs_of main_arg6 (by decide) (by decide))).trans (V_main_arg6 m c),
      ((h c).1 6).trans (((dats m 0 c).arrAt_in 6 rfl _).trans ((A_eq m c 6).trans (V_main_arg7 m c))),
      ((h c).2 main_arg8 (Pipeline.mem_restRefs_of main_arg8 (by decide) (by decide))).trans (V_main_arg8 m c),
      ((h c).1 8).trans (((dats m 0 c).arrAt_in 8 rfl _).trans ((A_eq m c 8).trans (V_main_arg9 m c))),
      ((h c).2 main_arg10 (Pipeline.mem_restRefs_of main_arg10 (by decide) (by decide))).trans (V_main_arg10 m c),
      ((h c).1 10).trans (((dats m 0 c).arrAt_in 10 rfl _).trans ((A_eq m c 10).trans (V_main_arg11 m c))),
      ((h c).2 main_arg12 (Pipeline.mem_restRefs_of main_arg12 (by decide) (by decide))).trans (V_main_arg12 m c)⟩

/-- The result array ends at what the points left. -/
theorem result_of {r : PUnit × MemSt nD τ sig (Elt F)} (h : Pipeline.FramePost cfgs (dats m) 0 (V m) r) (c : Dev nD) :
    r.2.mem ((c.tc : Thread nD τ).loc main_v5) = (dats m 0 c).arrAt 12 cfg0.N := (h c).1 12

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨args_of m h.1, h.2⟩) (run_main m ρ)

end Cert.KernelIdeal.Gcn

end
-- ==== Proof.Kernel.Frame.lean ====
/-
The program and its idealization are one program at any float instance: no operation was rewritten, so the same text stands
under two names.  The frame proved of the second is therefore the frame of the first.
-/
module

public import proofs.«01_k».proof.Proof.KernelIdeal.Launch
public import proofs.«01_k».proof.Proof.Gen.Kernel.Frame

@[expose] public section

set_option maxRecDepth 16384

noncomputable section

namespace Cert.Kernel.Gcn

open Idealize.ShloMosaic Idealize.ShloMosaic.TcCoe Idealize.SL.Sem

variable {F : FTy → Type} [FloatOps F]

theorem body_eq : Cert.Kernel.cc0__decoder_kernel (F := F) = Cert.KernelIdeal.cc0__decoder_kernel := rfl

theorem bodies_eq : Cert.Kernel.defs₀ (F := F) = Cert.KernelIdeal.defs₀ := by
  unfold Cert.Kernel.defs₀ Cert.KernelIdeal.defs₀
  refine congrArg Defs.onTc (funext fun l => funext fun x => ?_)
  match l, x with
  | ⟨0, _⟩, (t, s) => exact rfl
  | ⟨_ + 1, h⟩, _ => exact absurd h (Nat.not_lt.2 (Nat.le_add_left _ _))

theorem defs_eq : Cert.Kernel.defs (F := F) = Cert.KernelIdeal.defs :=
  congrArg (Pipeline.defs (Cert.KernelIdeal.pcfgs (F := F))) bodies_eq

theorem main_eq : Cert.Kernel.main (F := F) = Cert.KernelIdeal.main := rfl

section
open Cert.KernelIdeal
/-- A run of one program is a run of an equal one. -/
theorem moved {d d' : Defs nD τ sig (Elt F) (Pipeline.Sig Λ₀ (Fin 1) fun p => (pcfgs (F := F) p).Adm)}
    {p p' : Dev nD → Prog (TpuEff nD τ sig (Elt F) (Pipeline.Sig Λ₀ (Fin 1) fun p => (pcfgs (F := F) p).Adm) .tc) PUnit}
    (hd : d = d') (hp : p = p') {s : _} {Q : _} (h : θ_run d' (onTc (τ := τ) p') s Q) : θ_run d (onTc (τ := τ) p) s Q := by
  subst hd hp; exact h
end

open Cert.Kernel in
/-- THE FRAME. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  moved defs_eq main_eq (Cert.KernelIdeal.Gcn.frame m ρ)

end Cert.Kernel.Gcn

end
-- ==== Proof.ReferenceIdeal.Frame.lean ====
module

public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

/-! The reference's frame: a program of host operations leaves its arguments as they were, and a
    program with no semaphores has no counter that is not at zero. -/

@[expose] public section

namespace Cert.ReferenceIdeal.Gcn

open Idealize.ShloMosaic Idealize.ShloMosaic.TcCoe Idealize.SL.Sem

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0 :=
  (θ_run defs _ _).mono (fun r h => ⟨fun c => (h c).2, sem_eq_zero_of_no_sems (by decide) r.2⟩)
    (Value.run m ρ)

end Cert.ReferenceIdeal.Gcn
-- ==== Proof.Value.Algebra.lean ====
/-
One graph layer over the extended reals.  The kernel multiplies the two weight matrices of a layer together before it
aggregates, the reference aggregates between the two products.  On real operands the two orders give the same real.
-/
module

public import Mathlib.Data.EReal.Operations
public import Mathlib.Algebra.BigOperators.Ring.Finset
public import Idealize.ShloMosaic.PureOps.Ideal.Laws
public import Idealize.ShloMosaic.Lib.IdealHost

@[expose] public section

noncomputable section

namespace Cert.Gcn

open Idealize.ShloMosaic
open scoped BigOperators

/-- An extended real that is a real. -/
def Real' (x : EReal) : Prop := ∃ r : ℝ, x = (r : EReal)

theorem Real'.add {x y : EReal} : Real' x → Real' y → Real' (x + y)
  | ⟨a, ha⟩, ⟨b, hb⟩ => ⟨a + b, by rw [ha, hb, EReal.coe_add]⟩
theorem Real'.mul {x y : EReal} : Real' x → Real' y → Real' (x * y)
  | ⟨a, ha⟩, ⟨b, hb⟩ => ⟨a * b, by rw [ha, hb, EReal.coe_mul]⟩
theorem Real'.max {x y : EReal} : Real' x → Real' y → Real' (max x y)
  | ⟨a, ha⟩, ⟨b, hb⟩ => ⟨Max.max a b, by rw [ha, hb]; exact (EReal.coe_strictMono.monotone.map_max).symm⟩
theorem Real'.zero : Real' 0 := ⟨0, rfl⟩

/-- A sum of coerced reals is the coerced sum. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem Real'.sum {ι : Type} (s : Finset ι) (f : ι → EReal) (h : ∀ i, Real' (f i)) : Real' (∑ i ∈ s, f i) := by
  choose g hg using h
  exact ⟨∑ i ∈ s, g i, by rw [coe_sum]; exact Finset.sum_congr rfl fun i _ => hg i⟩

/-- An element whose absolute value lies below the top is a real. -/
theorem real_of_abs {x : EReal} (h : max x (-x) < ⊤) : Real' x := by
  induction x using EReal.rec with
  | bot => simp at h
  | coe r => exact ⟨r, rfl⟩
  | top => simp at h

/-- The reals' law: products with `u` pulled out of the aggregation. -/
theorem reorder {J K L : Type} [Fintype J] [Fintype K] [Fintype L] (a : J → ℝ) (h : J → K → ℝ) (w : K → L → ℝ) (b u : L → ℝ) :
    ∑ j, a j * ((∑ k, h j k * ∑ l, w k l * u l) + ∑ l, b l * u l) = ∑ l, (∑ j, a j * ((∑ k, h j k * w k l) + b l)) * u l := by
  have inner : ∀ j, (∑ k, h j k * ∑ l, w k l * u l) + ∑ l, b l * u l = ∑ l, ((∑ k, h j k * w k l) + b l) * u l := fun j => by
    simp only [add_mul, Finset.sum_add_distrib, Finset.sum_mul, Finset.mul_sum, mul_assoc]
    rw [Finset.sum_comm]
  have outer : ∀ x : J → L → ℝ, ∑ j, a j * ∑ l, x j l * u l = ∑ l, (∑ j, a j * x j l) * u l := fun x => by
    simp only [Finset.mul_sum, Finset.sum_mul, mul_assoc]
    exact Finset.sum_comm
  simp only [inner]
  exact outer _

/-- The kernel's layer before the bias: row `a` of the adjacency against the messages made with the combined weights. -/
def early {J K L : Type} [Fintype J] [Fintype K] [Fintype L] (a : J → EReal) (h : J → K → EReal) (w : K → L → EReal) (b u : L → EReal) : EReal :=
  ∑ j, a j * ((∑ k, h j k * ∑ l, w k l * u l) + ∑ l, b l * u l)
/-- The reference's: the messages aggregated, divided by one, then multiplied by the update weights. -/
def late {J K L : Type} [Fintype J] [Fintype K] [Fintype L] (a : J → EReal) (h : J → K → EReal) (w : K → L → EReal) (b u : L → EReal) : EReal :=
  ∑ l, Ideal.div (∑ j, a j * ((∑ k, h j k * w k l) + b l)) 1 * u l

theorem div_one' (x : EReal) : Ideal.div x 1 = x :=
  (Ideal.div_coe one_ne_zero x).trans (by simp)

theorem early_real {J K L : Type} [Fintype J] [Fintype K] [Fintype L] {a : J → EReal} {h : J → K → EReal} {w : K → L → EReal} {b u : L → EReal}
    (ha : ∀ j, Real' (a j)) (hh : ∀ j k, Real' (h j k)) (hw : ∀ k l, Real' (w k l)) (hb : ∀ l, Real' (b l)) (hu : ∀ l, Real' (u l)) :
    Real' (early a h w b u) :=
  Real'.sum _ _ fun j => (ha j).mul ((Real'.sum _ _ fun k => (hh j k).mul (Real'.sum _ _ fun l => (hw k l).mul (hu l))).add
    (Real'.sum _ _ fun l => (hb l).mul (hu l)))

/-- The two layers agree on real operands. -/
theorem early_eq_late {J K L : Type} [Fintype J] [Fintype K] [Fintype L] {a : J → EReal} {h : J → K → EReal} {w : K → L → EReal} {b u : L → EReal}
    (ha : ∀ j, Real' (a j)) (hh : ∀ j k, Real' (h j k)) (hw : ∀ k l, Real' (w k l)) (hb : ∀ l, Real' (b l)) (hu : ∀ l, Real' (u l)) :
    early a h w b u = late a h w b u := by
  have e : late a h w b u = ∑ l, (∑ j, a j * ((∑ k, h j k * w k l) + b l)) * u l :=
    Finset.sum_congr rfl fun l _ => by rw [div_one']
  rw [e]; unfold early
  choose a' ha using ha
  choose h' hh using hh
  choose w' hw using hw
  choose b' hb using hb
  choose u' hu using hu
  simp only [ha, hh, hw, hb, hu, ← EReal.coe_mul, ← EReal.coe_add, ← coe_sum]
  exact congrArg _ (reorder a' h' w' b' u')

end Cert.Gcn

end
-- ==== Proof.Value.Model.lean ====
/-
The decoder on one entry: two layers and an output product, with the order of a layer's products left open.
-/
module

public import proofs.«01_k».proof.Proof.Value.Algebra
public import Idealize.ShloMosaic.Lib.ValueIdx

@[expose] public section

noncomputable section

namespace Cert.Gcn

open Idealize.ShloMosaic Idealize.ShloMosaic.ValueIdx
open scoped BigOperators

/-- A way to aggregate: an adjacency row, features, message weights and bias, and a column of update weights. -/
abbrev Agg := (Fin 2048 → EReal) → (Fin 2048 → Fin 64 → EReal) → (Fin 64 → Fin 64 → EReal) → (Fin 64 → EReal) → (Fin 64 → EReal) → EReal

abbrev A3 (a b c : ℕ) := (⟨3, ![a, b, c]⟩ : Shape).Idx → EReal
abbrev A2 (a b : ℕ) := (⟨2, ![a, b]⟩ : Shape).Idx → EReal
abbrev A1 (a : ℕ) := (⟨1, ![a]⟩ : Shape).Idx → EReal

/-- A layer's features at row `n`, column `d` of element `e`. -/
def layer (agg : Agg) (x1 : A3 4 2048 2048) (h : Fin 2048 → Fin 64 → EReal) (w : A2 64 64) (b : A1 64) (u : A2 64 64) (v : A1 64)
    (e : Fin 4) (n : Fin 2048) (d : Fin 64) : EReal :=
  max (agg (fun j => x1 (ix3 e n j)) h (fun k l => w (ix2 k l)) (fun l => b (ix1 l)) (fun l => u (ix2 l d)) + v (ix1 d)) 0

/-- The output product, masked. -/
def output (h : Fin 2048 → Fin 64 → EReal) (x11 : A2 64 64) (x12 : A1 64) (x2 : A3 4 2048 1) (e : Fin 4) (n : Fin 2048) (d : Fin 64) : EReal :=
  ((∑ k : Fin 64, h n k * x11 (ix2 k d)) + x12 (ix1 d)) * x2 (ix3 e n (0 : Fin 1))

section
variable (x0 : A3 4 2048 64) (x1 : A3 4 2048 2048) (x2 : A3 4 2048 1) (x3 : A2 64 64) (x4 : A1 64) (x5 : A2 64 64) (x6 : A1 64)
  (x7 : A2 64 64) (x8 : A1 64) (x9 : A2 64 64) (x10 : A1 64) (x11 : A2 64 64) (x12 : A1 64)

/-- The first layer's features of element `e`. -/
def feats (agg : Agg) (e : Fin 4) : Fin 2048 → Fin 64 → EReal := layer agg x1 (fun j k => x0 (ix3 e j k)) x3 x4 x5 x6 e
/-- The decoder. -/
def net (agg : Agg) (e : Fin 4) : Fin 2048 → Fin 64 → EReal :=
  output (layer agg x1 (feats x0 x1 x3 x4 x5 x6 agg e) x7 x8 x9 x10 e) x11 x12 x2 e

variable {x0 x1 x2 x3 x4 x5 x6 x7 x8 x9 x10 x11 x12}

theorem layer_real {h : Fin 2048 → Fin 64 → EReal} {w : A2 64 64} {b : A1 64} {u : A2 64 64} {v : A1 64} (h1 : ∀ i, Real' (x1 i))
    (hh : ∀ j k, Real' (h j k)) (hw : ∀ i, Real' (w i)) (hb : ∀ i, Real' (b i)) (hu : ∀ i, Real' (u i)) (hv : ∀ i, Real' (v i))
    (e : Fin 4) (n : Fin 2048) (d : Fin 64) : Real' (layer early x1 h w b u v e n d) :=
  ((early_real (fun _ => h1 _) hh (fun _ _ => hw _) (fun _ => hb _) (fun _ => hu _)).add (hv _)).max Real'.zero

theorem layer_eq {h : Fin 2048 → Fin 64 → EReal} {w : A2 64 64} {b : A1 64} {u : A2 64 64} {v : A1 64} (h1 : ∀ i, Real' (x1 i))
    (hh : ∀ j k, Real' (h j k)) (hw : ∀ i, Real' (w i)) (hb : ∀ i, Real' (b i)) (hu : ∀ i, Real' (u i)) (e : Fin 4) :
    layer early x1 h w b u v e = layer late x1 h w b u v e :=
  funext fun _ => funext fun _ => congrArg (fun s => max (s + _) 0)
    (early_eq_late (fun _ => h1 _) hh (fun _ _ => hw _) (fun _ => hb _) (fun _ => hu _))

/-- The two orders give the same decoder where every operand of a reordered product is real. -/
theorem net_eq (h0 : ∀ i, Real' (x0 i)) (h1 : ∀ i, Real' (x1 i)) (h3 : ∀ i, Real' (x3 i)) (h4 : ∀ i, Real' (x4 i)) (h5 : ∀ i, Real' (x5 i))
    (h6 : ∀ i, Real' (x6 i)) (h7 : ∀ i, Real' (x7 i)) (h8 : ∀ i, Real' (x8 i)) (h9 : ∀ i, Real' (x9 i)) (e : Fin 4) :
    net x0 x1 x2 x3 x4 x5 x6 x7 x8 x9 x10 x11 x12 early e = net x0 x1 x2 x3 x4 x5 x6 x7 x8 x9 x10 x11 x12 late e := by
  have hf : ∀ j k, Real' (feats x0 x1 x3 x4 x5 x6 early e j k) := layer_real h1 (fun _ _ => h0 _) h3 h4 h5 h6 e
  unfold net
  rw [layer_eq h1 hf h7 h8 h9]
  unfold feats
  rw [layer_eq h1 (fun _ _ => h0 _) h3 h4 h5]
end

end Cert.Gcn

end
-- ==== Proof.Value.Payload.lean ====
/-
The idealized kernel's stored values read at an index: matrix products as sums, casts and broadcasts as reads.
-/
module

public import proofs.«01_k».proof.Proof.Gen.KernelIdeal.Skeleton
public import Idealize.ShloMosaic.Lib.MatmulPlain
public import Idealize.ShloMosaic.Lib.ValueLayout
public import Idealize.ShloMosaic.Lib.IdealHost
public import Idealize.ShloMosaic.Lib.Pipeline.Value

@[expose] public section

noncomputable section

namespace Cert.KernelIdeal.Gcn

open Cert.KernelIdeal.Gen
open Idealize.ShloMosaic Idealize.ShloMosaic.ValueIdx
open scoped BigOperators

/-! ## The products -/

theorem mul_weights (prec : Option ContractPrecision) (x y : FVec Ideal S64x64 .f32) (k d : Fin 64) :
    (matmul (F := Ideal) dot_S64x64_S64x64_S64x64_1_0_0_1_n_n prec x y (constant S64x64 .f32 0x00000000#32) : FVec Ideal _ .f32) (ix2 k d) = ∑ l : Fin 64, x (ix2 k l) * y (ix2 l d) := by
  refine (Ideal.matmul_plain_apply (M := 64) (K := 64) (N := 64) prec x y _ k d).trans ?_
  exact (congrArg (· + _) Ideal.ofBits_zero_f32).trans (zero_add _)
theorem mul_bias (prec : Option ContractPrecision) (x : FVec Ideal S1x64 .f32) (y : FVec Ideal S64x64 .f32) (u : Fin 1) (d : Fin 64) :
    (matmul (F := Ideal) dot_S1x64_S64x64_S1x64_1_0_0_1_n_n prec x y (constant S1x64 .f32 0x00000000#32) : FVec Ideal _ .f32) (ix2 u d) = ∑ l : Fin 64, x (ix2 u l) * y (ix2 l d) := by
  refine (Ideal.matmul_plain_apply (M := 1) (K := 64) (N := 64) prec x y _ u d).trans ?_
  exact (congrArg (· + _) Ideal.ofBits_zero_f32).trans (zero_add _)
theorem mul_rows (prec : Option ContractPrecision) (x : FVec Ideal S2048x64 .f32) (y : FVec Ideal S64x64 .f32) (n : Fin 2048) (d : Fin 64) :
    (matmul (F := Ideal) dot_S2048x64_S64x64_S2048x64_1_0_0_1_n_n prec x y (constant S2048x64 .f32 0x00000000#32) : FVec Ideal _ .f32) (ix2 n d) = ∑ k : Fin 64, x (ix2 n k) * y (ix2 k d) := by
  refine (Ideal.matmul_plain_apply (M := 2048) (K := 64) (N := 64) prec x y _ n d).trans ?_
  exact (congrArg (· + _) Ideal.ofBits_zero_f32).trans (zero_add _)
theorem mul_adj (prec : Option ContractPrecision) (x : FVec Ideal S2048x2048 .f32) (y : FVec Ideal S2048x64 .f32) (n : Fin 2048) (d : Fin 64) :
    (matmul (F := Ideal) dot_S2048x2048_S2048x64_S2048x64_1_0_0_1_n_n prec x y (constant S2048x64 .f32 0x00000000#32) : FVec Ideal _ .f32) (ix2 n d) = ∑ j : Fin 2048, x (ix2 n j) * y (ix2 j d) := by
  refine (Ideal.matmul_plain_apply (M := 2048) (K := 2048) (N := 64) prec x y _ n d).trans ?_
  exact (congrArg (· + _) Ideal.ofBits_zero_f32).trans (zero_add _)

/-- One column broadcast over many. -/
theorem column_apply (x : Vec Ideal S2048x1 .f32) (n : Fin 2048) (d : Fin 64) :
    broadcastTo S2048x64 x broadcasts_S2048x1_S2048x64 (ix2 n d) = x (ix2 n (0 : Fin 1)) :=
  broadcastTo_apply x _ (ix2 n d) (ix2 n (0 : Fin 1)) fun a => match a with | ⟨0, _⟩ => rfl | ⟨1, _⟩ => rfl

/-! ## The stored values -/

theorem pay5_apply (x y : Vec Ideal S64x64 .f32) (k d : Fin 64) : k0_pay5 x y (ix2 k d) = ∑ l : Fin 64, x (ix2 k l) * y (ix2 l d) := by
  unfold k0_pay5
  rw [shapeCast_self]
  exact mul_weights _ x y k d
theorem pay7_eq (x y : Vec Ideal S64x64 .f32) : k0_pay7 x y = k0_pay5 x y := rfl
theorem pay6_apply (x : Vec Ideal S1x64 .f32) (y : Vec Ideal S64x64 .f32) (u : Fin 1) (d : Fin 64) :
    k0_pay6 x y (ix2 u d) = ∑ l : Fin 64, x (ix2 u l) * y (ix2 l d) := by
  unfold k0_pay6
  rw [shapeCast_self, shapeCast_self]
  exact mul_bias _ x y u d
theorem pay8_eq (x : Vec Ideal S1x64 .f32) (y : Vec Ideal S64x64 .f32) : k0_pay8 x y = k0_pay6 x y := rfl

/-- The messages of a block of latents. -/
theorem pay3_apply (h : Vec Ideal S1x2048x64 .f32) (w : Vec Ideal S64x64 .f32) (b : Vec Ideal S1x64 .f32) (n : Fin 2048) (d : Fin 64) :
    k0_pay3 h w b (ix2 n d) = (∑ k : Fin 64, h (ix3 (0 : Fin 1) n k) * w (ix2 k d)) + b (ix2 (0 : Fin 1) d) := by
  unfold k0_pay3
  rw [shapeCast_self]
  refine congrArg₂ (· + ·) ((mul_rows _ _ w n d).trans (Finset.sum_congr rfl fun k _ => ?_)) (broadcastTo_1b_ab_apply b _ n d)
  rw [shapeCast_1ab_ab_apply]

/-- A layer's features, the bias chosen by the layer bit. -/
theorem pay1_apply (v : BitVec 1) (b0 b1 : Vec Ideal S1x64 .f32) (a : Vec Ideal S1x2048x2048 .f32) (y : Vec Ideal S2048x64 .f32) (n : Fin 2048) (d : Fin 64) :
    k0_pay1 v b0 b1 a y (ix2 n d) = max ((∑ j : Fin 2048, a (ix3 (0 : Fin 1) n j) * y (ix2 j d)) + (Scalar.select v b0 b1) (ix2 (0 : Fin 1) d)) 0 := by
  unfold k0_pay1
  rw [shapeCast_self, shapeCast_self]
  refine congrArg₂ max (congrArg₂ (· + ·) ?_ (broadcastTo_1b_ab_apply _ _ n d)) Ideal.ofBits_zero_f32
  refine (congrArg₂ (· * ·) (mul_adj _ _ y n d) Ideal.ofBits_one_f32).trans ((mul_one _).trans (Finset.sum_congr rfl fun j _ => ?_))
  rw [shapeCast_1ab_ab_apply]

/-- The next layer's messages. -/
theorem pay2_apply (v : BitVec 1) (b0 b1 : Vec Ideal S1x64 .f32) (a : Vec Ideal S1x2048x2048 .f32) (y : Vec Ideal S2048x64 .f32)
    (w : Vec Ideal S64x64 .f32) (b : Vec Ideal S1x64 .f32) (n : Fin 2048) (d : Fin 64) :
    k0_pay2 v b0 b1 a y w b (ix2 n d) = (∑ k : Fin 64, k0_pay1 v b0 b1 a y (ix2 n k) * w (ix2 k d)) + b (ix2 (0 : Fin 1) d) := by
  unfold k0_pay2
  rw [shapeCast_self]
  exact congrArg₂ (· + ·) (mul_rows _ _ w n d) (broadcastTo_1b_ab_apply b _ n d)

/-- The output block. -/
theorem pay4_apply (v : BitVec 1) (b0 b1 : Vec Ideal S1x64 .f32) (a : Vec Ideal S1x2048x2048 .f32) (y : Vec Ideal S2048x64 .f32)
    (w : Vec Ideal S64x64 .f32) (b : Vec Ideal S1x64 .f32) (k' : Vec Ideal S1x2048x1 .f32) (u : Fin 1) (n : Fin 2048) (d : Fin 64) :
    k0_pay4 v b0 b1 a y w b k' (ix3 u n d)
      = ((∑ k : Fin 64, k0_pay1 v b0 b1 a y (ix2 n k) * w (ix2 k d)) + b (ix2 (0 : Fin 1) d)) * k' (ix3 (0 : Fin 1) n (0 : Fin 1)) := by
  unfold k0_pay4
  rw [shapeCast_self]
  refine (shapeCast_ab_1ab_apply _ _ u n d).trans ?_
  refine congrArg₂ (· * ·) (congrArg₂ (· + ·) (mul_rows _ _ w n d) (broadcastTo_1b_ab_apply b _ n d)) ?_
  rw [column_apply, shapeCast_1ab_ab_apply]

end Cert.KernelIdeal.Gcn

end
-- ==== Proof.Value.Operands.lean ====
/-
The operand windows' blocks and the adjacency block as entries of the argument arrays.
-/
module

public import proofs.«01_k».proof.Proof.KernelIdeal.Inv
public import Idealize.ShloMosaic.Lib.ValueLayout
public import Idealize.ShloMosaic.Lib.Pipeline.Value

@[expose] public section

noncomputable section

namespace Cert.KernelIdeal.Gcn

open Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ) (c : Dev nD)

/-! ## The reshaped biases -/

theorem V_bias0 : (V m c main_v0 : Vec F S1x64 .f32) = shapeCast S1x64 (m ((c.tc : Thread nD τ).loc main_arg4) : Vec F S64 .f32) shapeCasts_S64_S1x64 := by
  unfold V; dsimp only [hostOps0]; after_results_simp; rfl
theorem V_bias1 : (V m c main_v1 : Vec F S1x64 .f32) = shapeCast S1x64 (m ((c.tc : Thread nD τ).loc main_arg6) : Vec F S64 .f32) shapeCasts_S64_S1x64 := by
  unfold V; dsimp only [hostOps0]; after_results_simp; rfl
theorem V_bias2 : (V m c main_v2 : Vec F S1x64 .f32) = shapeCast S1x64 (m ((c.tc : Thread nD τ).loc main_arg8) : Vec F S64 .f32) shapeCasts_S64_S1x64 := by
  unfold V; dsimp only [hostOps0]; after_results_simp; rfl
theorem V_bias3 : (V m c main_v3 : Vec F S1x64 .f32) = shapeCast S1x64 (m ((c.tc : Thread nD τ).loc main_arg10) : Vec F S64 .f32) shapeCasts_S64_S1x64 := by
  unfold V; dsimp only [hostOps0]; after_results_simp; rfl
theorem V_bias4 : (V m c main_v4 : Vec F S1x64 .f32) = shapeCast S1x64 (m ((c.tc : Thread nD τ).loc main_arg12) : Vec F S64 .f32) shapeCasts_S64_S1x64 := by
  unfold V; dsimp only [hostOps0]; after_results_simp; rfl

/-! ## The windows' index maps -/

/-- The element whose latents point `t`'s window holds: a second-layer point already looks at the next element's. -/
def lat (t : Fin cfg0.N) : Fin 4 := ⟨min ((t.val + 1) / 2) 3, by omega⟩
/-- The element point `t` works on. -/
def elm (t : Fin cfg0.N) : Fin 4 := ⟨t.val / 2, by have := val_lt t; omega⟩

theorem index_0 : ∀ t : Fin cfg0.N, win0_0.index t 0 = (lat t).val ∧ win0_0.index t 1 = 0 ∧ win0_0.index t 2 = 0 :=
  (by decide +kernel : ∀ t : Fin grid0.N, win0_0.index t 0 = min ((t.val + 1) / 2) 3 ∧ win0_0.index t 1 = 0 ∧ win0_0.index t 2 = 0)
theorem index_1 : ∀ t : Fin cfg0.N, win0_1.index t 0 = (elm t).val ∧ win0_1.index t 1 = 0 ∧ win0_1.index t 2 = 0 :=
  (by decide +kernel : ∀ t : Fin grid0.N, win0_1.index t 0 = t.val / 2 ∧ win0_1.index t 1 = 0 ∧ win0_1.index t 2 = 0)
theorem index_12 : ∀ t : Fin cfg0.N, win0_12.index t 0 = (elm t).val ∧ win0_12.index t 1 = 0 ∧ win0_12.index t 2 = 0 :=
  (by decide +kernel : ∀ t : Fin grid0.N, win0_12.index t 0 = t.val / 2 ∧ win0_12.index t 1 = 0 ∧ win0_12.index t 2 = 0)

/-! ## The blocks -/

section
variable (t : Fin cfg0.N)

theorem emb_0 (u : Fin 1) (n : Fin 2048) (k : Fin 64) : (win0_0.rect t).emb (ix3 u n k) = ix3 (lat t) n k := by
  funext a; apply Fin.ext
  obtain ⟨h0, h1, h2⟩ := index_0 t
  match a with
  | ⟨0, _⟩ => refine (win0_0.rect_emb_val t _ _ rfl).trans ?_
              show win0_0.index t 0 * 1 + u.val = _
              rw [h0]; show _ = (lat t).val; omega
  | ⟨1, _⟩ => exact win0_0.rect_emb_val_of_index_zero t _ h1 _
  | ⟨2, _⟩ => exact win0_0.rect_emb_val_of_index_zero t _ h2 _
theorem emb_1 (u : Fin 1) (n : Fin 2048) (k : Fin 1) : (win0_1.rect t).emb (ix3 u n k) = ix3 (elm t) n k := by
  funext a; apply Fin.ext
  obtain ⟨h0, h1, h2⟩ := index_1 t
  match a with
  | ⟨0, _⟩ => refine (win0_1.rect_emb_val t _ _ rfl).trans ?_
              show win0_1.index t 0 * 1 + u.val = _
              rw [h0]; show _ = (elm t).val; omega
  | ⟨1, _⟩ => exact win0_1.rect_emb_val_of_index_zero t _ h1 _
  | ⟨2, _⟩ => exact win0_1.rect_emb_val_of_index_zero t _ h2 _
theorem emb_12 (u : Fin 1) (n : Fin 2048) (k : Fin 64) : (win0_12.rect t).emb (ix3 u n k) = ix3 (elm t) n k := by
  funext a; apply Fin.ext
  obtain ⟨h0, h1, h2⟩ := index_12 t
  match a with
  | ⟨0, _⟩ => refine (win0_12.rect_emb_val t _ _ rfl).trans ?_
              show win0_12.index t 0 * 1 + u.val = _
              rw [h0]; show _ = (elm t).val; omega
  | ⟨1, _⟩ => exact win0_12.rect_emb_val_of_index_zero t _ h1 _
  | ⟨2, _⟩ => exact win0_12.rect_emb_val_of_index_zero t _ h2 _

theorem iblk_0 (u : Fin 1) (n : Fin 2048) (k : Fin 64) :
    iblk m c 0 t (ix3 u n k) = (m ((c.tc : Thread nD τ).loc main_arg0) : Vec F S4x2048x64 .f32) (ix3 (lat t) n k) := by
  unfold iblk; rw [View.read_apply, cast_eq]
  show V m c main_arg0 ((win0_0.rect t).emb (ix3 u n k)) = _
  rw [V_main_arg0, emb_0]
theorem iblk_1 (u : Fin 1) (n : Fin 2048) (k : Fin 1) :
    iblk m c 1 t (ix3 u n k) = (m ((c.tc : Thread nD τ).loc main_arg2) : Vec F S4x2048x1 .f32) (ix3 (elm t) n k) := by
  unfold iblk; rw [View.read_apply, cast_eq]
  show V m c main_arg2 ((win0_1.rect t).emb (ix3 u n k)) = _
  rw [V_main_arg2, emb_1]

theorem iblk_2 : iblk m c 2 t = (m ((c.tc : Thread nD τ).loc main_arg3) : Vec F S64x64 .f32) := by
  refine Eq.trans (funext fun x => ?_) (V_main_arg3 m c)
  unfold iblk; rw [View.read_apply, cast_eq]
  exact congrArg (V m c main_arg3) (funext fun a => Fin.ext (win0_2.rect_emb_val_of_index_zero t a (by fin_cases a <;> rfl) x))
theorem iblk_4 : iblk m c 4 t = (m ((c.tc : Thread nD τ).loc main_arg5) : Vec F S64x64 .f32) := by
  refine Eq.trans (funext fun x => ?_) (V_main_arg5 m c)
  unfold iblk; rw [View.read_apply, cast_eq]
  exact congrArg (V m c main_arg5) (funext fun a => Fin.ext (win0_4.rect_emb_val_of_index_zero t a (by fin_cases a <;> rfl) x))
theorem iblk_6 : iblk m c 6 t = (m ((c.tc : Thread nD τ).loc main_arg7) : Vec F S64x64 .f32) := by
  refine Eq.trans (funext fun x => ?_) (V_main_arg7 m c)
  unfold iblk; rw [View.read_apply, cast_eq]
  exact congrArg (V m c main_arg7) (funext fun a => Fin.ext (win0_6.rect_emb_val_of_index_zero t a (by fin_cases a <;> rfl) x))
theorem iblk_8 : iblk m c 8 t = (m ((c.tc : Thread nD τ).loc main_arg9) : Vec F S64x64 .f32) := by
  refine Eq.trans (funext fun x => ?_) (V_main_arg9 m c)
  unfold iblk; rw [View.read_apply, cast_eq]
  exact congrArg (V m c main_arg9) (funext fun a => Fin.ext (win0_8.rect_emb_val_of_index_zero t a (by fin_cases a <;> rfl) x))
theorem iblk_10 : iblk m c 10 t = (m ((c.tc : Thread nD τ).loc main_arg11) : Vec F S64x64 .f32) := by
  refine Eq.trans (funext fun x => ?_) (V_main_arg11 m c)
  unfold iblk; rw [View.read_apply, cast_eq]
  exact congrArg (V m c main_arg11) (funext fun a => Fin.ext (win0_10.rect_emb_val_of_index_zero t a (by fin_cases a <;> rfl) x))

theorem iblk_3 (u : Fin 1) (l : Fin 64) : iblk m c 3 t (ix2 u l) = (m ((c.tc : Thread nD τ).loc main_arg4) : Vec F S64 .f32) (ix1 l) := by
  refine Eq.trans ?_ ((congrFun (V_bias0 m c) (ix2 u l)).trans (shapeCast_a_1a_apply _ shapeCasts_S64_S1x64 u l))
  unfold iblk; rw [View.read_apply, cast_eq]
  exact congrArg (V m c main_v0) (funext fun a => Fin.ext (win0_3.rect_emb_val_of_index_zero t a (by fin_cases a <;> rfl) _))
theorem iblk_5 (u : Fin 1) (l : Fin 64) : iblk m c 5 t (ix2 u l) = (m ((c.tc : Thread nD τ).loc main_arg6) : Vec F S64 .f32) (ix1 l) := by
  refine Eq.trans ?_ ((congrFun (V_bias1 m c) (ix2 u l)).trans (shapeCast_a_1a_apply _ shapeCasts_S64_S1x64 u l))
  unfold iblk; rw [View.read_apply, cast_eq]
  exact congrArg (V m c main_v1) (funext fun a => Fin.ext (win0_5.rect_emb_val_of_index_zero t a (by fin_cases a <;> rfl) _))
theorem iblk_7 (u : Fin 1) (l : Fin 64) : iblk m c 7 t (ix2 u l) = (m ((c.tc : Thread nD τ).loc main_arg8) : Vec F S64 .f32) (ix1 l) := by
  refine Eq.trans ?_ ((congrFun (V_bias2 m c) (ix2 u l)).trans (shapeCast_a_1a_apply _ shapeCasts_S64_S1x64 u l))
  unfold iblk; rw [View.read_apply, cast_eq]
  exact congrArg (V m c main_v2) (funext fun a => Fin.ext (win0_7.rect_emb_val_of_index_zero t a (by fin_cases a <;> rfl) _))
theorem iblk_9 (u : Fin 1) (l : Fin 64) : iblk m c 9 t (ix2 u l) = (m ((c.tc : Thread nD τ).loc main_arg10) : Vec F S64 .f32) (ix1 l) := by
  refine Eq.trans ?_ ((congrFun (V_bias3 m c) (ix2 u l)).trans (shapeCast_a_1a_apply _ shapeCasts_S64_S1x64 u l))
  unfold iblk; rw [View.read_apply, cast_eq]
  exact congrArg (V m c main_v3) (funext fun a => Fin.ext (win0_9.rect_emb_val_of_index_zero t a (by fin_cases a <;> rfl) _))
theorem iblk_11 (u : Fin 1) (l : Fin 64) : iblk m c 11 t (ix2 u l) = (m ((c.tc : Thread nD τ).loc main_arg12) : Vec F S64 .f32) (ix1 l) := by
  refine Eq.trans ?_ ((congrFun (V_bias4 m c) (ix2 u l)).trans (shapeCast_a_1a_apply _ shapeCasts_S64_S1x64 u l))
  unfold iblk; rw [View.read_apply, cast_eq]
  exact congrArg (V m c main_v4) (funext fun a => Fin.ext (win0_11.rect_emb_val_of_index_zero t a (by fin_cases a <;> rfl) _))
end

/-- The adjacency block of element `b`. -/
theorem blk_apply (b : Fin 4) (u : Fin 1) (n j : Fin 2048) :
    blk (V m c main_arg1) b (ix3 u n j) = (m ((c.tc : Thread nD τ).loc main_arg1) : Vec F S4x2048x2048 .f32) (ix3 b n j) := by
  unfold blk; rw [V_main_arg1]
  exact congrArg _ (funext fun a => match a with | ⟨0, _⟩ => rfl | ⟨1, _⟩ => rfl | ⟨2, _⟩ => rfl)

end Cert.KernelIdeal.Gcn

end
-- ==== Proof.Value.Kernel.lean ====
/-
The idealized kernel's result array, entry by entry: block `b` is written at point `2b + 1`.
-/
module

public import proofs.«01_k».proof.Proof.Value.Model
public import proofs.«01_k».proof.Proof.Value.Payload
public import proofs.«01_k».proof.Proof.Value.Operands

@[expose] public section

noncomputable section

namespace Cert.KernelIdeal.Gcn

open Cert.KernelIdeal.Gen Cert.Gcn
open Idealize.ShloMosaic Idealize.ShloMosaic.TcCoe Idealize.ShloMosaic.ValueIdx
open Idealize.SL.Sem
open Idealize.ShloMosaic.Pipeline (Dat)
open scoped BigOperators

variable (m : (ℓ : Loc nD τ sig) → Buf (Elt Ideal) ℓ) (c : Dev nD)

/-- An argument array as launched. -/
abbrev arg (b : Ref sig .tc) : Buf (Elt Ideal) ((c.tc : Thread nD τ).loc b) := m ((c.tc : Thread nD τ).loc b)

/-- The decoder on the argument arrays, in the kernel's order. -/
def want (e : Fin 4) : Fin 2048 → Fin 64 → EReal :=
  net (arg m c main_arg0) (arg m c main_arg1) (arg m c main_arg2) (arg m c main_arg3) (arg m c main_arg4) (arg m c main_arg5) (arg m c main_arg6)
    (arg m c main_arg7) (arg m c main_arg8) (arg m c main_arg9) (arg m c main_arg10) (arg m c main_arg11) (arg m c main_arg12) early e

/-- A row times a weight matrix. -/
abbrev combine (w : Fin 64 → EReal) (u : A2 64 64) (d : Fin 64) : EReal := ∑ l : Fin 64, w l * u (ix2 l d)

/-! The combined weights and biases. -/

theorem wc0_apply (k d : Fin 64) :
    wc0 m c (ix2 k d) = combine (fun l => (arg m c main_arg3 : A2 64 64) (ix2 k l)) (arg m c main_arg5) d := by
  unfold wc0; rw [pay5_apply, iblk_2, iblk_4]
theorem wc1_apply (k d : Fin 64) :
    wc1 m c (ix2 k d) = combine (fun l => (arg m c main_arg7 : A2 64 64) (ix2 k l)) (arg m c main_arg9) d := by
  unfold wc1; rw [pay7_eq, pay5_apply, iblk_6, iblk_8]
theorem bc0_apply (u : Fin 1) (d : Fin 64) :
    bc0 m c (ix2 u d) = combine (fun l => (arg m c main_arg4 : A1 64) (ix1 l)) (arg m c main_arg5) d := by
  unfold bc0; rw [pay6_apply, iblk_4]; simp only [iblk_3]
theorem bc1_apply (u : Fin 1) (d : Fin 64) :
    bc1 m c (ix2 u d) = combine (fun l => (arg m c main_arg8 : A1 64) (ix1 l)) (arg m c main_arg9) d := by
  unfold bc1; rw [pay8_eq, pay6_apply, iblk_8]; simp only [iblk_7]

/-- The first layer's features at an odd point, from the messages its predecessor found. -/
theorem feats_apply (t : Fin cfg0.N) (ht : t.val % 2 = 1) (n : Fin 2048) (d : Fin 64) :
    k0_pay1 1#1 (iblk m c 5 (pt 0)) (iblk m c 9 (pt 0)) (blk (V m c main_arg1) (bk (t.val / 2))) (msg0 m c (t.val - 1)) (ix2 n d)
      = feats (arg m c main_arg0) (arg m c main_arg1) (arg m c main_arg3) (arg m c main_arg4) (arg m c main_arg5) (arg m c main_arg6) early (elm t) n d := by
  have hb : bk (t.val / 2) = elm t := Fin.ext (Nat.mod_eq_of_lt (by have := val_lt t; omega))
  have hl : lat (pt (t.val - 1 - 1)) = elm t := Fin.ext (by
    have := val_lt t
    show min (((t.val - 1 - 1) % 8 + 1) / 2) 3 = t.val / 2
    omega)
  rw [pay1_apply, hb]
  unfold feats layer early
  refine congrArg (max · 0) (congrArg₂ (· + ·) (Finset.sum_congr rfl fun j _ => ?_) ?_)
  · rw [blk_apply]
    refine congrArg₂ (fun p q : EReal => p * q) rfl ?_
    unfold msg0
    rw [pay3_apply, bc0_apply]
    simp only [wc0_apply, iblk_0, hl]
  · exact iblk_5 m c (pt 0) 0 d

/-- What an odd point writes. -/
theorem res_apply (t : Fin cfg0.N) (ht : t.val % 2 = 1) (u : Fin 1) (n : Fin 2048) (d : Fin 64) :
    res m c t (ix3 u n d) = want m c (elm t) n d := by
  have hb : bk (t.val / 2) = elm t := Fin.ext (Nat.mod_eq_of_lt (by have := val_lt t; omega))
  unfold res
  rw [pay4_apply]
  unfold want net output
  refine congrArg₂ (· * ·) (congrArg₂ (· + ·) (Finset.sum_congr rfl fun k _ => ?_) (iblk_11 m c (pt 0) 0 d)) (iblk_1 m c t 0 n 0)
  rw [iblk_10]
  refine congrArg₂ (fun p q : EReal => p * q) ?_ rfl
  rw [pay1_apply]
  unfold layer early
  refine congrArg (max · 0) (congrArg₂ (· + ·) (Finset.sum_congr rfl fun j _ => ?_) (iblk_9 m c (pt 0) 0 k))
  rw [hb, blk_apply]
  refine congrArg₂ (fun p q : EReal => p * q) rfl ?_
  unfold msg1
  rw [pay2_apply, bc1_apply]
  simp only [wc1_apply, feats_apply m c t ht]
  rfl

/-! ## The result array -/

/-- The array the kernel leaves. -/
def final : Buf (Elt Ideal) ((c.tc : Thread nD τ).loc main_v5) := fun i : S4x2048x64.Idx => want m c (i 0) (i 1) (i 2)

/-- An odd point flushes its element of the decoder. -/
theorem flushed_eq (t : Fin cfg0.N) (hf : (cfg0.win 12).flush t = true) :
    (dats m 0 c).flushed 12 t = ((cfg0.win 12).blk t).view.read (Elt Ideal) (final m c) := by
  have ht := (flush0_12 t).mp hf
  show (cfg0.win 12).cut (grid0.coords t) ((dats m 0 c).after 12 t) = _
  rw [after_res]
  funext x
  rw [View.read_apply, cast_eq]
  obtain ⟨u, n, d, rfl⟩ : ∃ (u : Fin 1) (n : Fin 2048) (d : Fin 64), x = ix3 u n d := ⟨_, _, _, eq_ix3 x⟩
  show res m c t (ix3 u n d) = final m c ((win0_12.rect t).emb (ix3 u n d))
  rw [emb_12, res_apply m c t ht]
  rfl

/-- Every entry of the result lies in some odd point's block. -/
theorem cover (i : S4x2048x64.Idx) : ∃ t : Fin cfg0.N, (cfg0.win 12).flush t = true ∧ i ∈ ((cfg0.win 12).blk t).view.set := by
  obtain ⟨e, n, d, rfl⟩ : ∃ (e : Fin 4) (n : Fin 2048) (d : Fin 64), i = ix3 e n d := ⟨_, _, _, eq_ix3 i⟩
  have hv : (pt (2 * e.val + 1)).val = 2 * e.val + 1 := Nat.mod_eq_of_lt (by omega)
  refine ⟨pt (2 * e.val + 1), (flush0_12 _).mpr (by omega), ?_⟩
  have he : elm (pt (2 * e.val + 1)) = e := Fin.ext (by show (pt (2 * e.val + 1)).val / 2 = e.val; omega)
  have h := ((cfg0.win 12).blk (pt (2 * e.val + 1))).view.emb_mem_set (ix3 (0 : Fin 1) n d)
  have h' : ((cfg0.win 12).blk (pt (2 * e.val + 1))).view.emb (ix3 (0 : Fin 1) n d) = ix3 e n d := by
    show (win0_12.rect (pt (2 * e.val + 1))).emb (ix3 (0 : Fin 1) n d) = ix3 e n d
    rw [emb_12, he]
  rw [h'] at h
  exact h

/-- So the pipeline leaves the decoder. -/
theorem final_eq : (dats m 0 c).arrAt 12 cfg0.N = final m c :=
  (dats m 0 c).arrAt_eq_of_cover 12 (final m c) (fun t hf => flushed_eq m c t hf) cover

end Cert.KernelIdeal.Gcn

end
-- ==== Proof.Value.Reference.lean ====
/-
The idealized reference's result, entry by entry: its second layer is its first layer's operations on the first layer's
features.
-/
module

public import proofs.«01_k».proof.Proof.Value.Model
public import proofs.«01_k».proof.Proof.Gen.ReferenceIdeal.Read

@[expose] public section

noncomputable section

namespace Cert.ReferenceIdeal.Gcn

open Cert.Gcn Cert.ReferenceIdeal.Read
open Idealize.ShloMosaic Idealize.ShloMosaic.ValueIdx
open scoped BigOperators

theorem ix3_of {a b c : ℕ} {i : (⟨3, ![a, b, c]⟩ : Shape).Idx} {x : Fin a} {y : Fin b} {z : Fin c} (h0 : i 0 = x) (h1 : i 1 = y) (h2 : i 2 = z) :
    i = ix3 x y z := by subst h0 h1 h2; exact eq_ix3 i
theorem ix2_of {a b : ℕ} {i : (⟨2, ![a, b]⟩ : Shape).Idx} {x : Fin a} {y : Fin b} (h0 : i 0 = x) (h1 : i 1 = y) : i = ix2 x y := by
  subst h0 h1; exact eq_ix2 i
theorem ix1_of {a : ℕ} {i : (⟨1, ![a]⟩ : Shape).Idx} {x : Fin a} (h0 : i 0 = x) : i = ix1 x := by subst h0; exact eq_ix1 i

variable (x0 : FVec Ideal S4x2048x64 .f32) (x1 : FVec Ideal S4x2048x2048 .f32) (x2 : FVec Ideal S4x2048x1 .f32) (x3 : FVec Ideal S64x64 .f32)
  (x4 : FVec Ideal S64 .f32) (x5 : FVec Ideal S64x64 .f32) (x6 : FVec Ideal S64 .f32) (x7 : FVec Ideal S64x64 .f32) (x8 : FVec Ideal S64 .f32)
  (x9 : FVec Ideal S64x64 .f32) (x10 : FVec Ideal S64 .f32) (x11 : FVec Ideal S64x64 .f32) (x12 : FVec Ideal S64 .f32)
variable (e : Fin 4) (n : Fin 2048) (d : Fin 64)

/-- The messages. -/
theorem messages_apply : val_main_v3 (F := Ideal) x0 x3 x4 (ix3 e n d) = (∑ k : Fin 64, x0 (ix3 e n k) * x3 (ix2 k d)) + x4 (ix1 d) := by
  refine congrArg₂ (· + ·) ((val_main_v0_apply x0 x3 _).trans (Finset.sum_congr rfl fun k _ => ?_))
    ((val_main_v2_apply (F := Ideal) x4 _).trans ((val_main_v1_apply (F := Ideal) x4 _).trans (congrArg x4 (ix1_of rfl))))
  exact congrArg₂ (· * ·) (congrArg x0 (ix3_of rfl rfl rfl)) (congrArg x3 (ix2_of rfl rfl))

/-- Their aggregate, divided by one. -/
theorem aggregate_apply : val_main_v6 (F := Ideal) x0 x1 x3 x4 (ix3 e n d)
    = Ideal.div (∑ j : Fin 2048, x1 (ix3 e n j) * ((∑ k : Fin 64, x0 (ix3 e j k) * x3 (ix2 k d)) + x4 (ix1 d))) 1 := by
  refine congrArg₂ Ideal.div ((val_main_v4_apply x0 x1 x3 x4 _).trans (Finset.sum_congr rfl fun j _ => ?_))
    ((val_main_v5_apply (F := Ideal) _).trans Ideal.ofBits_one_f32)
  refine congrArg₂ (· * ·) (congrArg x1 (ix3_of rfl rfl rfl)) (Eq.trans (congrArg _ ?_) (messages_apply x0 x3 x4 e j d))
  exact ix3_of rfl rfl rfl

/-- A layer. -/
theorem layer_apply : val_main_v11 (F := Ideal) x0 x1 x3 x4 x5 x6 (ix3 e n d) = layer late x1 (fun j k => x0 (ix3 e j k)) x3 x4 x5 x6 e n d := by
  unfold layer late
  refine congrArg₂ max (congrArg₂ (· + ·) ((val_main_v7_apply x0 x1 x3 x4 x5 _).trans (Finset.sum_congr rfl fun l _ => ?_))
    ((val_main_v9_apply (F := Ideal) x6 _).trans ((val_main_v8_apply (F := Ideal) x6 _).trans (congrArg x6 (ix1_of rfl)))))
    ((val_main_call0_v0_apply (F := Ideal) _).trans Ideal.ofBits_zero_f32)
  refine congrArg₂ (· * ·) (Eq.trans (congrArg _ ?_) (aggregate_apply x0 x1 x3 x4 e n l)) (congrArg x5 (ix2_of rfl rfl))
  exact ix3_of rfl rfl rfl

/-- The second layer is the first one's operations again. -/
theorem second_eq : val_main_v23 (F := Ideal) x0 x1 x3 x4 x5 x6 x7 x8 x9 x10
    = val_main_v11 (F := Ideal) (val_main_v11 (F := Ideal) x0 x1 x3 x4 x5 x6) x1 x7 x8 x9 x10 := rfl

/-- The result. -/
theorem result_apply : val_main_v29 (F := Ideal) x0 x1 x2 x3 x4 x5 x6 x7 x8 x9 x10 x11 x12 (ix3 e n d)
    = net x0 x1 x2 x3 x4 x5 x6 x7 x8 x9 x10 x11 x12 late e n d := by
  unfold net output
  refine congrArg₂ (· * ·) (congrArg₂ (· + ·) ((val_main_v24_apply x0 x1 x3 x4 x5 x6 x7 x8 x9 x10 x11 _).trans (Finset.sum_congr rfl fun k _ => ?_))
    ((val_main_v26_apply (F := Ideal) x12 _).trans ((val_main_v25_apply (F := Ideal) x12 _).trans (congrArg x12 (ix1_of rfl)))))
    ((val_main_v28_apply (F := Ideal) x2 _).trans (congrArg x2 (ix3_of rfl rfl rfl)))
  refine congrArg₂ (· * ·) ?_ (congrArg x11 (ix2_of rfl rfl))
  rw [second_eq]
  refine Eq.trans (congrArg _ (?_ : _ = ix3 e n k)) ((layer_apply _ x1 x7 x8 x9 x10 e n k).trans ?_)
  · exact ix3_of rfl rfl rfl
  · have h : (fun j k => val_main_v11 (F := Ideal) x0 x1 x3 x4 x5 x6 (ix3 e j k)) = feats x0 x1 x3 x4 x5 x6 late e :=
      funext fun j => funext fun k => layer_apply x0 x1 x3 x4 x5 x6 e j k
    rw [h]

end Cert.ReferenceIdeal.Gcn

end
-- ==== Proof.Value.Finite.lean ====
/-
What the precondition says: the arrays it names hold reals.
-/
module

public import proofs.«01_k».proof.Proof.Value.Algebra
public import proofs.«01_k».proof.Proof.Gen.Pre_finite
public import Idealize.ShloMosaic.Lib.ReduceAll
public import Idealize.ShloMosaic.Lib.IdealHost

@[expose] public section

noncomputable section

namespace Cert.Pre_finite.Gcn

open Cert.Gcn
open Idealize.ShloMosaic Idealize.ShloMosaic.ValueIdx

/-- The pattern the magnitudes are compared with is `+inf`. -/
theorem ofBits_inf : Ideal.ofBits .f32 0x7F800000#32 = ⊤ := by
  simp [Ideal.ofBits, Ideal.ieee]

/-- The conjunction over an array of "the magnitude is below `+inf`". -/
abbrev allFinite {s : Shape} {axes : List (Fin s.rank)} (x : FVec Ideal s .f32) (hb : S_.BroadcastsInDim s ![]) (hr : s.ReducesTo axes S_) (hu : 0 < S_.numel) :
    IVec S_ 1 :=
  Host.reduce IntOp.andi (cmpf .olt (Host.absf x) (broadcastInDim s ![] hb (constant (F := Ideal) S_ .f32 0x7F800000#32))) (constantI S_ 1 1#1) hr hu

/-- Where it holds every entry is real. -/
theorem real_of_allFinite {s : Shape} {axes : List (Fin s.rank)} {x : FVec Ideal s .f32} {hb : S_.BroadcastsInDim s ![]} {hr : s.ReducesTo axes S_}
    {hu : 0 < S_.numel} (h : allFinite x hb hr hu ix0 = 1#1) (i : s.Idx) : Real' (x i) := by
  haveI : Subsingleton S_.Idx := ⟨fun a b => funext fun k => k.elim0⟩
  have e : cmpf .olt (Host.absf x) (broadcastInDim s ![] hb (constant (F := Ideal) S_ .f32 0x7F800000#32)) i = 1#1 :=
    Host.reduce_andi_all _ _ hr hu ix0 h i
  refine real_of_abs ?_
  have e' : Ideal.cmp .olt (max (x i) (-x i)) (Ideal.ofBits .f32 0x7F800000#32) = 1#1 := e
  rw [ofBits_inf] at e'
  by_contra hn
  rw [show Ideal.cmp .olt (max (x i) (-x i)) ⊤ = BitVec.ofBool (decide (max (x i) (-x i) < ⊤)) from rfl, decide_eq_false hn] at e'
  exact absurd e' (by decide)

/-- A conjunction of two scalars. -/
theorem both {a b : IVec S_ 1} (h : andi a b ix0 = 1#1) : a ix0 = 1#1 ∧ b ix0 = 1#1 := IntOp.andi_eq_one.1 h

/-- Every array the precondition names holds reals. -/
theorem reals {x0 : FVec Ideal S4x2048x64 .f32} {x1 : FVec Ideal S4x2048x2048 .f32} {x2 : FVec Ideal S4x2048x1 .f32} {x3 : FVec Ideal S64x64 .f32}
    {x4 : FVec Ideal S64 .f32} {x5 : FVec Ideal S64x64 .f32} {x6 : FVec Ideal S64 .f32} {x7 : FVec Ideal S64x64 .f32} {x8 : FVec Ideal S64 .f32}
    {x9 : FVec Ideal S64x64 .f32} {x10 : FVec Ideal S64 .f32} {x11 : FVec Ideal S64x64 .f32} {x12 : FVec Ideal S64 .f32}
    (h : fn (F := Ideal) x0 x1 x2 x3 x4 x5 x6 x7 x8 x9 x10 x11 x12 = fun _ => 1#1) :
    (∀ i, Real' (x0 i)) ∧ (∀ i, Real' (x1 i)) ∧ (∀ i, Real' (x3 i)) ∧ (∀ i, Real' (x4 i)) ∧ (∀ i, Real' (x5 i)) ∧ (∀ i, Real' (x6 i))
      ∧ (∀ i, Real' (x7 i)) ∧ (∀ i, Real' (x8 i)) ∧ ∀ i, Real' (x9 i) := by
  have h := congrFun h ix0
  dsimp only [fn, fn_part1, fn_part2] at h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h0, h1⟩ := both h
  exact ⟨real_of_allFinite h0, real_of_allFinite h1, real_of_allFinite h3, real_of_allFinite h4, real_of_allFinite h5, real_of_allFinite h6,
    real_of_allFinite h7, real_of_allFinite h8, real_of_allFinite h9⟩

end Cert.Pre_finite.Gcn

end
-- ==== Proof.lean ====
/-
The claims of `proofs.«01_k».proof.Defs`, proved.
-/
module

public import proofs.«01_k».proof.Defs
public import proofs.«01_k».proof.Proof.Kernel.Frame
public import proofs.«01_k».proof.Proof.KernelIdeal.Launch
public import proofs.«01_k».proof.Proof.ReferenceIdeal.Frame
public import proofs.«01_k».proof.Proof.Value.Kernel
public import proofs.«01_k».proof.Proof.Value.Reference
public import proofs.«01_k».proof.Proof.Value.Finite
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Adequacy
public import Idealize.ShloMosaic.Init

@[expose] public section

noncomputable section

namespace Cert.Proof

open Idealize.ShloMosaic Idealize.SL.Sem

/-- The reference's operations on the kernel's arguments give what the kernel leaves. -/
theorem results (m : (ℓ : Loc Cert.KernelIdeal.nD Cert.KernelIdeal.τ Cert.KernelIdeal.sig) → Buf (Elt Ideal) ℓ) (hpre : Cert.Pre_KernelIdeal_finite m)
    (c : Dev Cert.KernelIdeal.nD) :
    Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      = Cert.KernelIdeal.Gcn.final m c := by
  obtain ⟨h0, h1, h3, h4, h5, h6, h7, h8, h9⟩ := Cert.Pre_finite.Gcn.reals (hpre c)
  funext i
  rw [ValueIdx.eq_ix3 i]
  refine (Cert.ReferenceIdeal.Gcn.result_apply _ _ _ _ _ _ _ _ _ _ _ _ _ (i 0) (i 1) (i 2)).trans ?_
  exact (congrFun (congrFun (Cert.Gcn.net_eq h0 h1 h3 h4 h5 h6 h7 h8 h9 (i 0)) (i 1)) (i 2)).symm

/-- Kernel and reference end with equal results. -/
theorem algebraic : Cert.algebraic_KernelIdeal_ReferenceIdeal_pre_finite := by
  intro m g m' g' hpre hagree
  refine ⟨fun c => Cert.KernelIdeal.Gcn.final m c, ?_, ?_⟩
  · refine (θ_run _ _ _).mono (fun r h c => ?_) (Cert.KernelIdeal.Gcn.run_main m g)
    exact ⟨(Cert.KernelIdeal.Gcn.result_of m h.1 c).trans (Cert.KernelIdeal.Gcn.final_eq m c), Cert.KernelIdeal.Gcn.args_of m h.1 c⟩
  · refine (θ_run _ _ _).mono (fun r h c => ⟨(h c).1.trans ?_, (h c).2⟩) (Cert.ReferenceIdeal.Value.run m' g')
    obtain ⟨e0, e1, e2, e3, e4, e5, e6, e7, e8, e9, e10, e11, e12⟩ := hagree c
    refine (Cert.ReferenceIdeal.Read.val_main_v29_eq (F := Ideal) _ _ _ _ _ _ _ _ _ _ _ _ _).trans ?_
    rw [e0, e1, e2, e3, e4, e5, e6, e7, e8, e9, e10, e11, e12]
    exact results m hpre c

theorem claim : Cert.Claim := ⟨Cert.Kernel.Gen.facts, Cert.KernelIdeal.Gen.facts, Cert.ReferenceIdeal.Gen.facts, Cert.Pre_finite.Gen.facts,
  fun m ρ _ => Cert.Kernel.Gcn.frame m ρ, fun m ρ _ => Cert.KernelIdeal.Gcn.frame m ρ, fun m ρ _ => Cert.KernelIdeal.Gcn.frame m ρ,
  fun m ρ _ => Cert.ReferenceIdeal.Gcn.frame m ρ, fun m ρ _ => Cert.ReferenceIdeal.Gcn.frame m ρ, trivial, algebraic⟩

end Cert.Proof

end
